-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![4, 1024, 8, 64]⟩ ⟨4, ![4, 1024, 32, 64]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = Layout.block ⟨3, ![4, 256, 2048]⟩ ⟨3, ![4, 1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x8x64 : Shape := ⟨4, ![4, 1024, 8, 64]⟩
abbrev S512x2048 : Shape := ⟨2, ![512, 2048]⟩
abbrev S4x4x256x512 : Shape := ⟨4, ![4, 4, 256, 512]⟩
abbrev S4096x512 : Shape := ⟨2, ![4096, 512]⟩
abbrev S1024x2048 : Shape := ⟨2, ![1024, 2048]⟩
abbrev S1024x512 : Shape := ⟨2, ![1024, 512]⟩
abbrev S7 : Shape := ⟨1, ![7]⟩
abbrev S_ : Shape := ⟨0, ![]⟩
abbrev S1 : Shape := ⟨1, ![1]⟩
abbrev S4x256x2048 : Shape := ⟨3, ![4, 256, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x1024x8x64, .f32⟩
  | .hbm, ⟨1, _⟩ => ⟨S512x2048, .f32⟩
  | .hbm, ⟨2, _⟩ => ⟨S4x4x256x512, .f32⟩
  | .hbm, ⟨3, _⟩ => ⟨S4x4x256x512, .f32⟩
  | .hbm, ⟨4, _⟩ => ⟨S4096x512, .f32⟩
  | .hbm, ⟨5, _⟩ => ⟨S4096x512, .bf16⟩
  | .hbm, ⟨6, _⟩ => ⟨S512x2048, .bf16⟩
  | .hbm, ⟨7, _⟩ => ⟨S1024x2048, .f32⟩
  | .hbm, ⟨8, _⟩ => ⟨S4x256x2048, .f32⟩
  | .local _ .vmem, ⟨0, _⟩ => ⟨S4096x512, .bf16⟩
  | .local _ .vmem, ⟨1, _⟩ => ⟨S512x2048, .bf16⟩
  | .local _ .vmem, ⟨2, _⟩ => ⟨S1024x2048, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S4x1024x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c1_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let c0_i32_46 : BitVec 32 := 0#32
  ![v41.toNat, 0]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_44 : BitVec 32 := 1#32
  let v66 : BitVec 32 := Scalar.muli v24 c1_i32_44
  let v67 : BitVec 32 := Scalar.addi c0_i32_45 v66
  v67.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_26 : BitVec 32 := 1#32
  let v42 : BitVec 32 := Scalar.subi v2 c1_i32_26
  let c4_i32_27 : BitVec 32 := 4#32
  let c0_i32_28 : BitVec 32 := 0#32
  let v43 : BitVec 1 := Scalar.cmpi .eq c4_i32_27 c0_i32_28
  let c1_i32_29 : BitVec 32 := 1#32
  let v44 : BitVec 32 := Scalar.select v43 c1_i32_29 c4_i32_27
  let v45 : BitVec 32 := Scalar.remsi v42 v44
  let c0_i32_31 : BitVec 32 := 0#32
  let v47 : BitVec 1 := Scalar.cmpi .slt v45 c0_i32_31
  let c0_i32_32 : BitVec 32 := 0#32
  let v48 : BitVec 1 := Scalar.cmpi .slt v44 c0_i32_32
  let v49 : BitVec 1 := Scalar.xori v47 v48
  let c0_i32_30 : BitVec 32 := 0#32
  let v46 : BitVec 1 := Scalar.cmpi .ne v45 c0_i32_30
  let v50 : BitVec 1 := Scalar.andi v49 v46
  let v51 : BitVec 32 := Scalar.addi v45 v44
  let v52 : BitVec 32 := Scalar.select v50 v51 v45
  let c1024_i32_33 : BitVec 32 := 1024#32
  let v53 : BitVec 32 := Scalar.muli v52 c1024_i32_33
  let c0_i32_51 : BitVec 32 := 0#32
  ![v53.toNat, 0]
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v73 : BitVec 32 := Scalar.muli v13 c1_i32_49
  let v74 : BitVec 32 := Scalar.addi c0_i32_50 v73
  v74.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_54 : BitVec 32 := 1#32
  let v80 : BitVec 32 := Scalar.muli v24 c1_i32_54
  let v81 : BitVec 32 := Scalar.addi c0_i32_55 v80
  v81.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_57 : BitVec 32 := 1#32
  let v86 : BitVec 32 := Scalar.muli v13 c1_i32_57
  let v87 : BitVec 32 := Scalar.addi c0_i32_58 v86
  v87.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v92 : BitVec 32 := Scalar.muli v13 c1_i32_61
  let v93 : BitVec 32 := Scalar.addi c0_i32_62 v92
  v93.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_64 : BitVec 32 := 1024#32
  let v99 : BitVec 32 := Scalar.muli v2 c1024_i32_64
  let v100 : Index := Scalar.indexCast v99
  let c0 : Index := 0#32
  ![v100.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_74 : BitVec 32 := 1#32
  let v111 : BitVec 32 := Scalar.muli v24 c1_i32_74
  let v112 : BitVec 32 := Scalar.addi c0_i32_75 v111
  v112.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_96 : BitVec 32 := 1#32
  let v134 : BitVec 32 := Scalar.muli v13 c1_i32_96
  let v135 : BitVec 32 := Scalar.addi c0_i32_97 v134
  v135.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x1024x32x64 : Shape := ⟨4, ![4, 1024, 32, 64]⟩
abbrev S2048x2048 : Shape := ⟨2, ![2048, 2048]⟩
abbrev S4x1024x2048 : Shape := ⟨3, ![4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x64, .f32⟩
  | .hbm, ⟨1, _⟩ => ⟨S2048x2048, .f32⟩
  | .hbm, ⟨2, _⟩ => ⟨S4x1024x2048, .f32⟩
  | .hbm, ⟨3, _⟩ => ⟨S4x1024x2048, .f32⟩
  | _, _ => ⟨S4x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Proto.lean ====
/-
  The protocol of the kernel: four devices on a ring, seven flows of blocks between neighbours.

  Device `c` has the neighbours `lf c = c - 1` and `rt c = c + 1`. Flow `i : Fin 7` leaves every device on send semaphore `i`
  and is received on receive semaphore `i`:

    0  block `c + 1` of x          -> right's a_left        1  block `c - 1` of x   -> left's a_right
    2  w                           -> right's w_left        3  w                    -> left's w_right
    4  block `c + 2` of x          -> left's a_transit
    5  w_left (once 2 has landed)  -> right's w_diag        6  a_transit (once 4 has landed) -> left's a_diag

  Everything below is stated once for all flows, by the flow's number: which way it goes (`goesLeft`), its destination buffer
  (`dref`), what lands there (`landed`), what its source gives back (`sendPay`), its credit (`amt`), its level (`lvR`).
-/
module

public import proofs.«01_k».proof.Proof.Gen.KernelIdeal.Frame
public import proofs.«01_k».proof.Proof.Gen.KernelIdeal.Skeleton
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic

@[expose] public section

set_option maxRecDepth 16384

noncomputable section

namespace Cert.KernelIdeal.Flow

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds algebra: the pipeline's, and the flows', whose rounds have up to two duties. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-! ## The ring -/

/-- The left neighbour, `c - 1`. -/
def lf (c : Dev nD) : Dev nD := ⟨(c.val + 3) % 4, Nat.mod_lt _ (by decide)⟩
/-- The right neighbour, `c + 1`. -/
def rt (c : Dev nD) : Dev nD := ⟨(c.val + 1) % 4, Nat.mod_lt _ (by decide)⟩

theorem lf_rt (c : Dev nD) : lf (rt c) = c := by revert c; decide
theorem rt_lf (c : Dev nD) : rt (lf c) = c := by revert c; decide

/-- The ring's turn, as a permutation of the devices. -/
def turn : Dev nD ≃ Dev nD := ⟨rt, lf, lf_rt, rt_lf⟩

theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = rt c := by revert c; decide +kernel
theorem dev4_eq (c : Dev nD) : (⟨k0_dev4 c, k0_dev4_lt c⟩ : Dev nD) = lf c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev7_eq (c : Dev nD) : (⟨k0_dev7 c, k0_dev7_lt c⟩ : Dev nD) = lf c := by revert c; decide +kernel
theorem dev8_eq (c : Dev nD) : (⟨k0_dev8 c, k0_dev8_lt c⟩ : Dev nD) = rt c := by revert c; decide +kernel
theorem dev9_eq (c : Dev nD) : (⟨k0_dev9 c, k0_dev9_lt c⟩ : Dev nD) = lf c := by revert c; decide +kernel

/-- Whether flow `i` goes to the left neighbour. -/
def goesLeft : Fin 7 → Bool := ![false, true, false, true, true, false, true]
/-- The device flow `i` of device `c` goes to, -/
def dst (c : Dev nD) (i : Fin 7) : Dev nD := if goesLeft i then lf c else rt c
/-- and the device from which flow `i` reaches device `c`. -/
def frm (c : Dev nD) (i : Fin 7) : Dev nD := if goesLeft i then rt c else lf c

theorem frm_dst (c : Dev nD) (i : Fin 7) : frm (dst c i) i = c := by revert c i; decide
theorem dst_frm (c : Dev nD) (i : Fin 7) : dst (frm c i) i = c := by revert c i; decide

/-! ## Buffers, semaphores, cells -/

abbrev xM : Memref sig .tc .vmem S4096x512 .bf16 := Memref.whole cc0_stg0_0
abbrev wM : Memref sig .tc .vmem S512x2048 .bf16 := Memref.whole cc0_stg1_0
abbrev oM : Memref sig .tc .vmem S1024x2048 .f32 := Memref.whole cc0_stg2_0

/-- The blocks of x that flows 0, 1 and 4 of device `c` carry. -/
abbrev xCut0 (c : Dev nD) : Memref sig .tc .vmem S1024x512 .bf16 :=
  xM.slice (Rect.unit (s := S4096x512) (k0_off1 c 1#32) S1024x512.size (k0_off1_inb c 0)) (fun _ => rfl)
abbrev xCut1 (c : Dev nD) : Memref sig .tc .vmem S1024x512 .bf16 :=
  xM.slice (Rect.unit (s := S4096x512) (k0_off2 c) S1024x512.size (k0_off2_inb c)) (fun _ => rfl)
abbrev xCut4 (c : Dev nD) : Memref sig .tc .vmem S1024x512 .bf16 :=
  xM.slice (Rect.unit (s := S4096x512) (k0_off1 c 2#32) S1024x512.size (k0_off1_inb c 1)) (fun _ => rfl)

/-- The buffer flow `i` fills. -/
abbrev dref : Fin 7 → Ref sig .tc := fun
  | 0 => cc0_scratch0 | 1 => cc0_scratch1 | 2 => cc0_scratch4 | 3 => cc0_scratch5 | 4 => cc0_scratch3 | 5 => cc0_scratch6 | 6 => cc0_scratch2

abbrev barS : Sem sig := sig.barrier 0 rfl
/-- Send and receive semaphore of flow `i`. -/
abbrev sendS (i : Fin 7) : DmaSem sig := ⟨3 + i.val, Nat.add_lt_add_left i.isLt 3 |>.trans (by decide)⟩
abbrev recvS (i : Fin 7) : DmaSem sig := ⟨10 + i.val, Nat.add_lt_add_left i.isLt 10 |>.trans_le (by decide)⟩

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

/-- What a semaphore is to the protocol. -/
inductive Role where
  | bar | send (i : Fin 7) | recv (i : Fin 7) | other
deriving DecidableEq

/-- The role of each semaphore, by its place in its pool. -/
def role : SemLoc sig → Role
  | .reg s => if s = barS then .bar else .other
  | .dma q => if h : 3 ≤ q.val ∧ q.val < 10 then .send ⟨q.val - 3, by omega⟩
    else if h : 10 ≤ q.val ∧ q.val < 17 then .recv ⟨q.val - 10, by omega⟩ else .other

theorem role_bar : role (.reg barS) = .bar := by decide
theorem role_send (i : Fin 7) : role (.dma (sendS i)) = .send i := by revert i; decide
theorem role_recv (i : Fin 7) : role (.dma (recvS i)) = .recv i := by revert i; decide

/-- The credit of a block of x and of a block of w. -/
abbrev NA : ℕ := (Memref.whole cc0_scratch0 : Memref sig .tc .vmem S1024x512 .bf16).view.dmaCredit
abbrev NW : ℕ := (Memref.whole cc0_scratch4 : Memref sig .tc .vmem S512x2048 .bf16).view.dmaCredit
/-- The credit of flow `i`. -/
def amt : Fin 7 → ℕ := ![NA, NA, NW, NW, NA, NW, NA]
theorem amt_pos (i : Fin 7) : 0 < amt i := by
  have hA : 0 < NA := View.dmaCredit_pos _ (by decide)
  have hW : 0 < NW := View.dmaCredit_pos _ (by decide)
  fin_cases i <;> first | exact hA | exact hW

/-! ## Contents -/

/-- What the two input windows hold in the body: device `c`'s x and w. -/
def xs (c : Dev nD) : (cc0_stg0_0 : Ref sig .tc).ty.Contents (Elt F) := iblk m c 0 t0_0
def ws (c : Dev nD) : (cc0_stg1_0 : Ref sig .tc).ty.Contents (Elt F) := iblk m c 1 t0_0

/-- What flow `i` leaves in its destination buffer on device `c`. -/
def landed (c : Dev nD) : (i : Fin 7) → (dref i).ty.Contents (Elt F)
  | 0 => (xCut0 (lf c)).view.read (Elt F) (xs m (lf c))
  | 1 => (xCut1 (rt c)).view.read (Elt F) (xs m (rt c))
  | 2 => ws m (lf c)
  | 3 => ws m (rt c)
  | 4 => (xCut4 (rt c)).view.read (Elt F) (xs m (rt c))
  | 5 => ws m (lf (lf c))
  | 6 => (xCut4 (rt (rt c))).view.read (Elt F) (xs m (rt (rt c)))

/-- The own block of x, as the body loads it. -/
def own (c : Dev nD) : Vec F S1024x512 .bf16 :=
  xM.view.readAt (Elt F) (Rect.unit (s := S4096x512) (k0_off3 c) S1024x512.size (k0_off3_inb c)).toLoadRect (xs m c)

/-- The four partial results in the order the body adds them. -/
def acc1 (c : Dev nD) : Vec F S1024x2048 .f32 := k0_pay1 (own m c) (ws m c)
def acc2 (c : Dev nD) : Vec F S1024x2048 .f32 := k0_pay2 (acc1 m c) (landed m c 0) (landed m c 2)
def acc3 (c : Dev nD) : Vec F S1024x2048 .f32 := k0_pay3 (acc2 m c) (landed m c 1) (landed m c 3)
def acc4 (c : Dev nD) : Vec F S1024x2048 .f32 := k0_pay4 (acc3 m c) (landed m c 6) (landed m c 5)

/-! ## The schedule -/

/-- The share of its source each flow takes: x is cut in four, w in three (its last quarter stays with the third), w_left in two. -/
def cut : Fin 7 → PosShare TreeShare := fun
  | 0 => fullShare.left.left | 1 => fullShare.left.right | 4 => fullShare.right.left
  | 2 => fullShare.left.left | 3 => fullShare.left.right
  | 5 => fullShare.left | 6 => fullShare

/-- What a finished flow gives its sender back: its source, at the share it took. -/
def sendPay (c : Dev nD) : Fin 7 → sProp 𝕄
  | 0 => (xCut0 c).view.loc (c : Thread nD τ) ↦[(xCut0 c).view.set]{cut 0} xs m c
  | 1 => (xCut1 c).view.loc (c : Thread nD τ) ↦[(xCut1 c).view.set]{cut 1} xs m c
  | 2 => wM.view.loc (c : Thread nD τ) ↦[wM.view.set]{cut 2} ws m c
  | 3 => wM.view.loc (c : Thread nD τ) ↦[wM.view.set]{cut 3} ws m c
  | 4 => (xCut4 c).view.loc (c : Thread nD τ) ↦[(xCut4 c).view.set]{cut 4} xs m c
  | 5 => (Memref.whole cc0_scratch4).view.loc (c : Thread nD τ) ↦[(Memref.whole cc0_scratch4).view.set]{cut 5} landed m c 2
  | 6 => (Memref.whole cc0_scratch3).view.loc (c : Thread nD τ) ↦[(Memref.whole cc0_scratch3).view.set]{cut 6} landed m c 4

/-- What a landed flow gives its receiver: the buffer at what landed. -/
def recvPay (c : Dev nD) (i : Fin 7) : sProp 𝕄 := ((c : Thread nD τ).loc (dref i)) ↦{fullShare} landed m c i

/-- The right to fill flow `i`'s buffer on device `d`: the buffer at any contents, and that its receive cell is in round 0. -/
def slot (d : Dev nD) (i : Fin 7) : sProp 𝕄 :=
  iprop((∃ f : Buf (Elt F) ((d : Thread nD τ).loc (dref i)), ((d : Thread nD τ).loc (dref i)) ↦{fullShare} f) ∗ reached ER (recvCell d i) 0)

/-- The flows in direction `b`. -/
abbrev dirs (b : Bool) : Finset (Fin 7) := Finset.univ.filter (fun i => goesLeft i = b)

/-- What a neighbour's signal hands device `c`: the slots on that neighbour, one for each flow `c` sends it. -/
def barPay (c : Dev nD) (b : Bool) : sProp 𝕄 := bigSep (dirs b) fun i => slot (dst c i) i

instance sendPay_storable (c : Dev nD) (i : Fin 7) : BI.Storable (upEmb : UEmb _ 𝕄) (sendPay (F := F) m c i) := by
  unfold sendPay; split <;> infer_instance
instance recvPay_storable (c : Dev nD) (i : Fin 7) : BI.Storable (upEmb : UEmb _ 𝕄) (recvPay (F := F) m c i) := by
  unfold recvPay; infer_instance
instance slot_storable (c : Dev nD) (i : Fin 7) : BI.Storable (upEmb : UEmb _ 𝕄) (slot (F := F) c i) := by
  unfold slot; infer_instance
instance barPay_storable (c : Dev nD) (b : Bool) : BI.Storable (upEmb : UEmb _ 𝕄) (barPay (F := F) c b) := by
  unfold barPay; infer_instance

/-- One round on every cell of a TensorCore: two duties of one unit on the barrier cell, one duty of the flow's credit on each send
    and receive cell. -/
def sched : Rounds.Schedule (GSem nD τ sig) Bool 𝕄 where
  duties g r := if r = 0 ∧ g.1.2 = .tc then
    (match role g.2 with | .bar => Finset.univ | .send _ => {false} | .recv _ => {false} | .other => ∅) else ∅
  unitless _ := False
  amount g _ _ := match role g.2 with | .bar => 1 | .send i => amt i | .recv i => amt i | .other => 1
  payload g _ b := match role g.2 with
    | .bar => barPay g.1.1 b | .send i => sendPay m g.1.1 i | .recv i => recvPay m g.1.1 i | .other => iprop(emp)
  amount_pos g _ _ _ := by split <;> first | exact Nat.one_pos | exact amt_pos _

instance sched_storable (g : GSem nD τ sig) (r : ℕ) (d : Bool) : BI.Storable (upEmb : UEmb _ 𝕄) ((sched (F := F) m).payload g r d) := by
  show BI.Storable upEmb (match role g.2 with
    | .bar => barPay g.1.1 d | .send i => sendPay m g.1.1 i | .recv i => recvPay m g.1.1 i | .other => iprop(emp))
  split <;> infer_instance

section Sched
variable (c : Dev nD) (i : Fin 7)

theorem duties_bar : (sched (F := F) m).duties (barCell c) 0 = Finset.univ := by
  dsimp only [sched]; rw [if_pos ⟨rfl, rfl⟩, role_bar]
theorem duties_send : (sched (F := F) m).duties (sendCell c i) 0 = {false} := by
  dsimp only [sched]; rw [if_pos ⟨rfl, rfl⟩, role_send]
theorem duties_recv : (sched (F := F) m).duties (recvCell c i) 0 = {false} := by
  dsimp only [sched]; rw [if_pos ⟨rfl, rfl⟩, role_recv]
theorem duties_later (g : GSem nD τ sig) : ∀ r, 1 ≤ r → (sched (F := F) m).duties g r = ∅ :=
  fun r hr => by dsimp only [sched]; exact if_neg fun h => by omega

theorem amount_bar (b : Bool) : (sched (F := F) m).amount (barCell c) 0 b = 1 := by dsimp only [sched]; rw [role_bar]
theorem amount_send (b : Bool) : (sched (F := F) m).amount (sendCell c i) 0 b = amt i := by dsimp only [sched]; rw [role_send]
theorem amount_recv (b : Bool) : (sched (F := F) m).amount (recvCell c i) 0 b = amt i := by dsimp only [sched]; rw [role_recv]

theorem expect_bar : (sched (F := F) m).expect (barCell c) 0 = 2 := by
  unfold Schedule.expect Schedule.amountOf; rw [duties_bar, Finset.sum_congr rfl fun b _ => amount_bar m c b]; rfl
theorem expect_send : (sched (F := F) m).expect (sendCell c i) 0 = amt i := by
  unfold Schedule.expect Schedule.amountOf; rw [duties_send, Finset.sum_singleton, amount_send]
theorem expect_recv : (sched (F := F) m).expect (recvCell c i) 0 = amt i := by
  unfold Schedule.expect Schedule.amountOf; rw [duties_recv, Finset.sum_singleton, amount_recv]

theorem payload_bar (b : Bool) : (sched (F := F) m).payload (barCell c) 0 b = barPay c b := by dsimp only [sched]; rw [role_bar]
theorem payload_send (b : Bool) : (sched (F := F) m).payload (sendCell c i) 0 b = sendPay m c i := by dsimp only [sched]; rw [role_send]
theorem payload_recv (b : Bool) : (sched (F := F) m).payload (recvCell c i) 0 b = recvPay m c i := by dsimp only [sched]; rw [role_recv]

theorem bigSep_split_dirs (Φ : Fin 7 → sProp 𝕄) :
    (bigSep Finset.univ fun b : Bool => bigSep (dirs b) Φ) = bigSep Finset.univ Φ := by
  rw [bigSep_univ_eq_bigSepL [false, true] (by decide) (by decide)]
  show iprop(bigSep (dirs false) Φ ∗ bigSep (dirs true) Φ) = _
  rw [← show dirs false ∪ dirs true = Finset.univ by decide, bigSep_union (by decide)]
  rfl

/-- The rest of the barrier's round is a slot for every flow. -/
theorem rest_bar : bigSep ((sched (F := F) m).duties (barCell c) 0 \ ∅) (fun b => (sched (F := F) m).payload (barCell c) 0 b)
    = bigSep Finset.univ fun i => slot (dst c i) i := by
  rw [Finset.sdiff_empty, duties_bar, bigSep_congr fun b _ => payload_bar m c b]
  exact bigSep_split_dirs _
theorem rest_send : bigSep ((sched (F := F) m).duties (sendCell c i) 0 \ ∅) (fun b => (sched (F := F) m).payload (sendCell c i) 0 b)
    = sendPay m c i := by rw [Finset.sdiff_empty, duties_send, bigSep_singleton, payload_send]
theorem rest_recv : bigSep ((sched (F := F) m).duties (recvCell c i) 0 \ ∅) (fun b => (sched (F := F) m).payload (recvCell c i) 0 b)
    = recvPay m c i := by rw [Finset.sdiff_empty, duties_recv, bigSep_singleton, payload_recv]

end Sched

/-! ## What each device owes; the levels -/

/-- The receive credits of the flows in `S`. -/
def owedF (c : Dev nD) (S : Finset (Fin 7)) : CellTallies nD τ sig Unit := ∑ i ∈ S, tallyAt (recvCell (dst c i) i) () (amt i)

theorem owedF_erase (c : Dev nD) {S : Finset (Fin 7)} {i : Fin 7} (h : i ∈ S) :
    owedF c S = owedF c (S.erase i) + tallyAt (recvCell (dst c i) i) () (amt i) :=
  (Finset.sum_erase_add S _ h).symm
theorem owedF_empty (c : Dev nD) : owedF c ∅ = 0 := Finset.sum_empty

/-- At launch: every flow's credit, and one unit to each neighbour's barrier. -/
def O₀ (c : Dev nD) : CellTallies nD τ sig Unit :=
  (owedF c Finset.univ + tallyAt (barCell (rt c)) () 1) + tallyAt (barCell (lf c)) () 1

/-- The flows that wait for another come last. -/
def lvR : Fin 7 → ℕ := ![2, 2, 2, 2, 2, 3, 3]
def L (g : GSem nD τ sig) : Finset Unit := if g.1.2 = .tc then {()} else ∅
def lv (g : GSem nD τ sig) (_ : Unit) : ℕ := match role g.2 with | .bar => 1 | .send _ => 0 | .recv i => lvR i | .other => 0
theorem L_of_ne (g : GSem nD τ sig) (h : g.1.2 ≠ .tc) : L g = ∅ := if_neg h
theorem L_tc (c : Dev nD) (sm : SemLoc sig) : L ((c : Thread nD τ), sm) = {()} := if_pos rfl

theorem owedF_pos {c : Dev nD} {S : Finset (Fin 7)} {g : GSem nD τ sig} {u : Unit} (h : 0 < owedF c S g u) :
    ∃ i ∈ S, g = recvCell (dst c i) i := by
  unfold owedF at h
  rw [Finset.sum_apply, Finsupp.finset_sum_apply] at h
  obtain ⟨i, hi, hp⟩ := Finset.exists_ne_zero_of_sum_ne_zero h.ne'
  refine ⟨i, hi, ?_⟩
  rw [tallyAt_apply] at hp
  by_contra hn
  exact hp (if_neg fun h' => hn h'.1)

/-- A device may wait on a cell of its own below every flow it still owes. -/
theorem mayWait (c : Dev nD) (sm : SemLoc sig) (S : Finset (Fin 7)) (b : ℕ) (hb : lv ((c : Thread nD τ), sm) () ≤ b)
    (hS : ∀ i ∈ S, b < lvR i) : (levAts L lv : sProp 𝕄) ⊢ MayWait (c : Thread nD τ) sm () (owedF c S) :=
  MayOwe.of_cut (L := L) (lev := lv) b (fun p hp => by rw [Finset.mem_singleton.mp hp, L_tc]; exact Finset.mem_singleton_self _)
    (fun g u hg => by obtain ⟨i, -, rfl⟩ := owedF_pos hg; exact Finset.mem_singleton_self _)
    (fun p hp => by rw [Finset.mem_singleton.mp hp]; exact hb)
    (fun g u hg => by
      obtain ⟨i, hi, rfl⟩ := owedF_pos hg
      show b < lv (recvCell (dst c i) i) ()
      unfold lv; rw [role_recv]; exact hS i hi)

theorem O₀_pos {c : Dev nD} {g : GSem nD τ sig} {u : Unit} (h : 0 < O₀ c g u) :
    (∃ i, g = recvCell (dst c i) i) ∨ ∃ d, g = barCell d := by
  unfold O₀ at h
  rw [Pi.add_apply, Finsupp.add_apply, Pi.add_apply, Finsupp.add_apply, tallyAt_apply, tallyAt_apply] at h
  by_cases h1 : 0 < owedF c Finset.univ g u
  · obtain ⟨i, -, hi⟩ := owedF_pos h1; exact Or.inl ⟨i, hi⟩
  · by_contra hn
    rw [not_or] at hn
    rw [if_neg (fun h' => hn.2 ⟨_, h'.1⟩), if_neg (fun h' => hn.2 ⟨_, h'.1⟩)] at h
    omega

end Cert.KernelIdeal.Flow

end
-- ==== Proof.Body.lean ====
/-
  The body of the kernel on one device: one rule for sending a flow, one for draining a cell, one for the opening signals and wait,
  then the run of the body, and the pipeline's proof data around it.
-/
module

public import proofs.«01_k».proof.Proof.Proto
public import Idealize.ShloMosaic.Harness.Basic

@[expose] public section

set_option maxRecDepth 16384

noncomputable section

namespace Cert.KernelIdeal.Flow

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells and their invariants -/

/-- The DMA semaphores of the protocol: a send and a receive semaphore for each flow. -/
def osem : Fin 7 ⊕ Fin 7 → SemLoc sig := Sum.elim (fun i => .dma (sendS i)) (fun i => .dma (recvS i))
theorem osem_injective : Function.Injective osem := by decide

def barEmb : Dev nD ↪ GSem nD τ sig := ⟨fun c => barCell c, fun _ _ h => congrArg (fun g : GSem nD τ sig => g.1.1) h⟩
def dmaEmb : Dev nD × (Fin 7 ⊕ Fin 7) ↪ GSem nD τ sig :=
  ⟨fun p => ((p.1 : Thread nD τ), osem p.2), fun p q h =>
    Prod.ext (congrArg (fun g : GSem nD τ sig => g.1.1) h) (osem_injective (congrArg Prod.snd h))⟩

def barCells : Finset (GSem nD τ sig) := Finset.univ.map barEmb
def dmaCells : Finset (GSem nD τ sig) := Finset.univ.map dmaEmb

theorem barCell_mem (c : Dev nD) : barCell c ∈ barCells := Finset.mem_map_of_mem barEmb (Finset.mem_univ c)
theorem sendCell_mem (c : Dev nD) (i : Fin 7) : sendCell c i ∈ dmaCells := Finset.mem_map_of_mem dmaEmb (Finset.mem_univ (c, Sum.inl i))
theorem recvCell_mem (c : Dev nD) (i : Fin 7) : recvCell c i ∈ dmaCells := Finset.mem_map_of_mem dmaEmb (Finset.mem_univ (c, Sum.inr i))

/-- What every device knows: every cell's invariant, that every barrier is in round 0, and the levels. -/
def tools (κ : GSem nD τ sig → ℕ) : sProp 𝕄 :=
  iprop((bigSep (barCells ∪ dmaCells) fun g => cellInv ER (sched m) (κ g) g)
    ∗ (bigSep barCells fun g => reached ER g 0) ∗ levAts L lv)

instance tools_persistent (κ : GSem nD τ sig → ℕ) : BI.Persistent (tools (F := F) m κ) := by unfold tools; infer_instance

section Tools
variable (κ : GSem nD τ sig → ℕ)

theorem tools_inv {g : GSem nD τ sig} (h : g ∈ barCells ∪ dmaCells) : tools (F := F) m κ ⊢ cellInv ER (sched m) (κ g) g := by
  unfold tools
  iintro ⟨H, -, -⟩
  have e : (bigSep (barCells ∪ dmaCells) fun g => cellInv ER (sched (F := F) m) (κ g) g) ⊢ cellInv ER (sched m) (κ g) g := bigSep_elim h
  iapply e $$ H
theorem tools_bar (c : Dev nD) : tools (F := F) m κ ⊢ cellInv ER (sched m) (κ (barCell c)) (barCell c) :=
  tools_inv m κ (Finset.mem_union_left _ (barCell_mem c))
theorem tools_dma {g : GSem nD τ sig} (h : g ∈ dmaCells) : tools (F := F) m κ ⊢ cellInv ER (sched m) (κ g) g :=
  tools_inv m κ (Finset.mem_union_right _ h)
theorem tools_reached (c : Dev nD) : tools (F := F) m κ ⊢ reached ER (barCell c) 0 := by
  unfold tools
  iintro ⟨-, H, -⟩
  have e : (bigSep barCells fun g => (reached ER g 0 : sProp 𝕄)) ⊢ reached ER (barCell c) 0 := bigSep_elim (barCell_mem c)
  iapply e $$ H
theorem tools_lev : tools (F := F) m κ ⊢ levAts L lv := by
  unfold tools
  iintro ⟨-, -, H⟩
  iexact H

end Tools

/-! ## What the rules trade in -/

/-- Device `c` owes the flows of `S`, whatever it has waited on. -/
def owing (c : Dev nD) (S : Finset (Fin 7)) : sProp 𝕄 := iprop(∃ W : Waits sig Unit, owes (c : Thread nD τ) (owedF c S) W)

/-- The flows from number `k` on: what is still to be sent once the flows before are. -/
abbrev later (k : ℕ) : Finset (Fin 7) := Finset.univ.filter (fun i => k ≤ i.val)
theorem later_mem (i : Fin 7) : i ∈ later i.val := Finset.mem_filter.mpr ⟨Finset.mem_univ _, le_rfl⟩
theorem later_erase (i : Fin 7) : (later i.val).erase i = later (i.val + 1) := by revert i; decide

theorem owedF_step (c : Dev nD) (i : Fin 7) : owedF c (later i.val) = owedF c (later (i.val + 1)) + tallyAt (recvCell (dst c i) i) () (amt i) := by
  rw [owedF_erase c (later_mem i), later_erase]

/-- A cell of this device in round 0 and the credit to drain it. -/
def pend (g : GSem nD τ sig) (N : ℕ) : sProp 𝕄 := iprop(atPos ER g 0 ∅ 0 ∗ cred (tallyAt g () N))

/-- What device `c` needs to send flow `i`, besides source and slot. -/
def line (c : Dev nD) (i : Fin 7) : sProp 𝕄 :=
  iprop(atPos ER (sendCell c i) 0 ∅ 0 ∗ reached ER (sendCell c i) 0
    ∗ dutyTok ER (sendCell c i) 0 false ∗ dutyTok ER (recvCell (dst c i) i) 0 false)

/-- The run of `p` on device `c` to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules
variable (κ : GSem nD τ sig → ℕ) (c : Dev nD)

/-- Draining a DMA cell of this device: its whole round is awaited at once, its payload comes out, and the cell is closed. -/
theorem wp_drain {q : DmaSem sig} {P : sProp 𝕄} {N : ℕ} {S : Finset (Fin 7)} (hg : ((c : Thread nD τ), SemLoc.dma q) ∈ dmaCells)
    (hE : (sched (F := F) m).expect ((c : Thread nD τ), .dma q) 0 = N)
    (hP : bigSep ((sched (F := F) m).duties ((c : Thread nD τ), .dma q) 0 \ ∅) (fun b => (sched (F := F) m).payload ((c : Thread nD τ), .dma q) 0 b) = P)
    (hlv : ∀ i ∈ S, lv ((c : Thread nD τ), .dma q) () < lvR i)
    {sp sp' : Space} {s s' : Shape} {e e' : EltTy} {src : Memref sig .tc sp' s' e'} {dm : Memref sig .tc sp s e}
    {hsrc : src.view.WordExact} {hdst : dm.view.WordExact} (hN : dm.view.dmaCredit = N)
    {α : Type} {Q : α → sProp 𝕄} {k : PUnit → Prog (TpuEff nD τ sig (Elt F) Λ₀ .tc) α} :
    iprop(tools m κ ∗ pend ((c : Thread nD τ), .dma q) N ∗ owing c S)
      ⊢ iprop(((owing c S ∗ semVal ((c : Thread nD τ), .dma q) 0 ∗ P) -∗ runs c (k ⟨⟩) Q)
          -∗ runs c (.op (.waitDma2 q src dm hsrc hdst) k) Q) := by
  subst hN
  unfold pend owing
  iintro ⟨#HT, ⟨Hat, Hc⟩, ⟨%W, HO⟩⟩ Hk
  iapply (Rounds.wp_wait_rest_token 𝒱₀ ER (sched m) (c : Thread nD τ) none (κ := κ ((c : Thread nD τ), .dma q))
      (wpE_waitDma2_eq 𝒱₀ (c : Thread nD τ) none Set.univ) (Set.mem_univ _) () (O := owedF c S) (W := W) (R := 0) (m := 0) (T := ∅)
      (by rw [Nat.zero_add, hE])) $$ [Hc HO Hat]
  · isplitr; · iapply (tools_dma m κ hg); iexact HT
    isplitl [Hc]; · iexact Hc
    isplitl [HO]; · iexact HO
    isplitr; · iapply (mayWait c _ S _ le_rfl hlv); iapply (tools_lev m κ); iexact HT
    iexact Hat
  iintro ⟨HO, Hat, -, Hpay⟩
  ihave HP := (Entails.of_eq hP) $$ Hpay
  imod (Rounds.cell_close ER (sched m) (Set.mem_univ (κ ((c : Thread nD τ), .dma q))) (fun h => h) (R := 0 + 1) (duties_later m _)) $$ [Hat] with Hz
  · isplitr; · iapply (tools_dma m κ hg); iexact HT
    iexact Hat
  iapply Hk
  isplitl [HO]; · iexists _; iexact HO
  isplitl [Hz]; · iexact Hz
  iexact HP

/-- Draining a receive cell gives the buffer at what landed, -/
theorem wp_take (i : Fin 7) {q : DmaSem sig} (hq : q = recvS i) (k₀ : ℕ) (hlv : ∀ j ∈ later k₀, lvR i < lvR j)
    {sp sp' : Space} {s s' : Shape} {e e' : EltTy} {src : Memref sig .tc sp' s' e'} {dm : Memref sig .tc sp s e}
    {hsrc : src.view.WordExact} {hdst : dm.view.WordExact} (hN : dm.view.dmaCredit = amt i)
    {α : Type} {Q : α → sProp 𝕄} {k : PUnit → Prog (TpuEff nD τ sig (Elt F) Λ₀ .tc) α} :
    iprop(tools m κ ∗ pend (recvCell c i) (amt i) ∗ owing c (later k₀))
      ⊢ iprop(((owing c (later k₀) ∗ semVal (recvCell c i) 0 ∗ recvPay m c i) -∗ runs c (k ⟨⟩) Q)
          -∗ runs c (.op (.waitDma2 q src dm hsrc hdst) k) Q) := by
  subst hq
  exact wp_drain m κ c (recvCell_mem c i) (expect_recv m c i) (rest_recv m c i)
    (fun j hj => by unfold lv; rw [role_recv]; exact hlv j hj) hN

/-- and draining a send cell, when nothing is owed, the source's share. -/
theorem wp_back (i : Fin 7) {q : DmaSem sig} (hq : q = sendS i)
    {sp sp' : Space} {s s' : Shape} {e e' : EltTy} {src : Memref sig .tc sp' s' e'} {dm : Memref sig .tc sp s e}
    {hsrc : src.view.WordExact} {hdst : dm.view.WordExact} (hN : dm.view.dmaCredit = amt i)
    {α : Type} {Q : α → sProp 𝕄} {k : PUnit → Prog (TpuEff nD τ sig (Elt F) Λ₀ .tc) α} :
    iprop(tools m κ ∗ pend (sendCell c i) (amt i) ∗ owing c (later 7))
      ⊢ iprop(((owing c (later 7) ∗ semVal (sendCell c i) 0 ∗ sendPay m c i) -∗ runs c (k ⟨⟩) Q)
          -∗ runs c (.op (.waitDma2 q src dm hsrc hdst) k) Q) := by
  subst hq
  exact wp_drain m κ c (sendCell_mem c i) (expect_send m c i) (rest_send m c i) (fun j hj => absurd hj (by revert j; decide)) hN

/-- Sending flow `i`: its slot and its source go, the credit to drain its send cell comes. -/
theorem wp_flow (i : Fin 7) {n : Dev nD} (hn : n = dst c i)
    {sp sp' : Space} {s : Shape} {e : EltTy} {src : Memref sig .tc sp s e} {dm : Memref sig .tc sp' s e}
    {sS rS : DmaSem sig} (hs : sS = sendS i) (hr : rS = recvS i)
    {hsc : (show Memref sig (Dev.tc n : Thread nD τ).2.kind sp' s e from dm).view.ref.isScScratch = false}
    {hsrc : src.view.WordExact} {hdst : dm.view.WordExact}
    {hsem : DmaTarget.Typed sp (.dma rS) (.remote (Dev.tc n : Thread nD τ) dm (.dma sS) hsc)}
    {q : PosShare TreeShare} {fs : Buf (Elt F) (src.view.loc (c : Thread nD τ))}
    (hN : dm.view.dmaCredit = amt i) (hpay : (src.view.loc (c : Thread nD τ) ↦[src.view.set]{q} fs) = sendPay m c i)
    (hslot : (slot (F := F) (dst c i) i) ⊢ iprop((∃ fd, dm.view.loc (dst c i : Thread nD τ) ↦[dm.view.set]{fullShare} fd) ∗ reached ER (recvCell (dst c i) i) 0))
    (hland : ∀ fd, (dm.view.loc (dst c i : Thread nD τ) ↦[dm.view.set]{fullShare} (dm.view.write (Elt F) fd (src.view.read (Elt F) fs) Finset.univ))
      ⊢ recvPay m (dst c i) i)
    {α : Type} {Q : α → sProp 𝕄} {k : PUnit → Prog (TpuEff nD τ sig (Elt F) Λ₀ .tc) α} :
    iprop(tools m κ ∗ line c i ∗ slot (dst c i) i ∗ owing c (later i.val) ∗ sendPay m c i)
      ⊢ iprop(((pend (sendCell c i) (amt i) ∗ owing c (later (i.val + 1))) -∗ runs c (k ⟨⟩) Q)
          -∗ runs c (.op (.enqueueDma src (.remote (Dev.tc n : Thread nD τ) dm (.dma sS) hsc) (.dma rS) hsrc hdst hsem) k) Q) := by
  subst hn hs hr
  unfold line owing pend
  iintro ⟨#HT, ⟨Hat, Hrs, Hts, Htr⟩, Hslot, ⟨%W, HO⟩, Hsrc⟩ Hk
  ihave Hs := hslot $$ Hslot
  icases Hs with ⟨⟨%fd, Hd⟩, Hrr⟩
  ihave Hsrc := (Entails.of_eq hpay.symm) $$ Hsrc
  iapply (Rounds.wp_send_pointsTo 𝒱₀ ER (sched m) (c : Thread nD τ) none (κ₁ := κ (sendCell c i)) (κ₂ := κ (recvCell (dst c i) i))
    (r₁ := 0) (r₂ := 0) (d₁ := false) (d₂ := false) (fd := fd)
    (by rw [duties_send]; exact Finset.mem_singleton_self _) (by rw [duties_recv]; exact Finset.mem_singleton_self _)
    () () (amt i) (show dm.view.amount (.dma (recvS i)) = amt i from hN) (amount_send m c i false) (amount_recv m (dst c i) i false) (owedF c (later (i.val + 1))) (owedF_step c i) (W := W)
    (by rw [payload_send, hpay])
    (by rw [payload_recv]; exact hland fd)) $$ [HO Hrs Hts Htr Hd Hrr Hsrc]
  · isplitr; · iapply (tools_dma m κ (sendCell_mem c i)); iexact HT
    isplitr; · iapply (tools_dma m κ (recvCell_mem (dst c i) i)); iexact HT
    isplitl [Hsrc]; · iexact Hsrc
    isplitl [Hd]; · iexact Hd
    isplitl [HO]; · iexact HO
    isplitl [Hts]; · iexact Hts
    isplitl [Hrs]; · iexact Hrs
    isplitl [Htr]; · iexact Htr
    iexact Hrr
  iintro ⟨Hc, HO⟩
  iapply Hk
  isplitl [Hat Hc]
  · isplitl [Hat]; · iexact Hat
    iexact Hc
  iexists W; iexact HO

end Rules

/-! ## Cutting and joining the sources -/

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

theorem eq_of_entails {P Q : sProp 𝕄} (h₁ : P ⊢ Q) (h₂ : Q ⊢ P) : P = Q := BI.Entails.antisymm h₁ h₂

theorem pts_share {ℓ : Loc nD τ sig} {I : Finset (Idx ℓ)} (q : PosShare TreeShare) (f : Buf (Elt F) ℓ) :
    (ℓ ↦[I]{q} f : sProp 𝕄) = iprop((ℓ ↦[I]{q.left} f) ∗ ℓ ↦[I]{q.right} f) :=
  have h := pointsTo_share (nD := nD) (τ := τ) (sig := sig) (Ix := Unit) (Val := Elt F) (Name := ℕ) (U := UU) (Lvl := ℕ) (ℓ := ℓ) (I := I) (f := f) (PosShare.mem_left_op_right q)
  BI.Entails.antisymm h.1 h.2

theorem pts_carve {ℓ : Loc nD τ sig} (I : Finset (Idx ℓ)) (q : PosShare TreeShare) (f : Buf (Elt F) ℓ) :
    (ℓ ↦{q} f : sProp 𝕄) = iprop((ℓ ↦[I]{q} f) ∗ ℓ ↦[Finset.univ \ I]{q} f) :=
  have h := pointsTo_split_subset (nD := nD) (τ := τ) (sig := sig) (Ix := Unit) (Val := Elt F) (Name := ℕ) (U := UU) (Lvl := ℕ) (ℓ := ℓ) (q := q) (f := f) (Finset.subset_univ I)
  BI.Entails.antisymm h.1 h.2

section Cuts
variable (c : Dev nD)

/-- What stays of x at the three shares in flight, -/
def xKeep : sProp 𝕄 :=
  iprop((xM.view.loc (c : Thread nD τ) ↦[Finset.univ \ (xCut0 c).view.set]{cut 0} xs m c)
    ∗ (xM.view.loc (c : Thread nD τ) ↦[Finset.univ \ (xCut1 c).view.set]{cut 1} xs m c)
    ∗ (xM.view.loc (c : Thread nD τ) ↦[Finset.univ \ (xCut4 c).view.set]{cut 4} xs m c))

/-- and x in its parts: the three flows' sources, what stays, and a share to load from. -/
theorem x_parts : (xM.view.loc (c : Thread nD τ) ↦{fullShare} xs m c : sProp 𝕄)
    = iprop(sendPay m c 0 ∗ sendPay m c 1 ∗ sendPay m c 4 ∗ xKeep m c ∗ (xM.view.loc (c : Thread nD τ) ↦{fullShare.right.right} xs m c)) := by
  rw [pts_share fullShare, pts_share fullShare.left, pts_share fullShare.right,
    pts_carve (xCut0 c).view.set fullShare.left.left, pts_carve (xCut1 c).view.set fullShare.left.right,
    pts_carve (xCut4 c).view.set fullShare.right.left]
  unfold xKeep
  show iprop(((sendPay m c 0 ∗ _) ∗ (sendPay m c 1 ∗ _)) ∗ (sendPay m c 4 ∗ _) ∗ _) = _
  refine eq_of_entails ?_ ?_
  · iintro ⟨⟨⟨H0, K0⟩, H1, K1⟩, ⟨H4, K4⟩, HL⟩
    isplitl [H0]; · iexact H0
    isplitl [H1]; · iexact H1
    isplitl [H4]; · iexact H4
    isplitl [K0 K1 K4]
    · isplitl [K0]; · iexact K0
      isplitl [K1]; · iexact K1
      iexact K4
    iexact HL
  · iintro ⟨H0, H1, H4, ⟨K0, K1, K4⟩, HL⟩
    isplitl [H0 K0 H1 K1]
    · isplitl [H0 K0]
      · isplitl [H0]; · iexact H0
        iexact K0
      isplitl [H1]; · iexact H1
      iexact K1
    isplitl [H4 K4]
    · isplitl [H4]; · iexact H4
      iexact K4
    iexact HL

theorem w_parts : (wM.view.loc (c : Thread nD τ) ↦{fullShare} ws m c : sProp 𝕄)
    = iprop((sendPay m c 2 ∗ sendPay m c 3) ∗ (wM.view.loc (c : Thread nD τ) ↦{fullShare.right} ws m c)) := by
  rw [pts_share fullShare, pts_share fullShare.left]
  unfold sendPay
  simp only [Memref.view_whole, View.set_whole]
  rfl

/-- w_left, once landed: the source of flow 5 and a share to load from. -/
theorem take2_parts : (recvPay m c 2 : sProp 𝕄)
    = iprop(sendPay m c 5 ∗ (((c : Thread nD τ).loc cc0_scratch4) ↦{fullShare.right} landed m c 2)) := by
  unfold recvPay sendPay
  rw [pts_share fullShare]
  simp only [Memref.view_whole, View.set_whole]
  rfl

/-- a_transit, once landed, is the source of flow 6. -/
theorem take4_eq : (recvPay m c 4 : sProp 𝕄) = sendPay m c 6 := by
  unfold recvPay sendPay
  simp only [Memref.view_whole, View.set_whole]
  rfl

end Cuts

/-- A whole destination buffer takes exactly what was written. -/
theorem land_whole (d : Dev nD) (i : Fin 7) {w : (dref i).ty.Contents (Elt F)} (h : landed m d i = w)
    (fd : Buf (Elt F) ((Memref.whole (dref i)).view.loc (d : Thread nD τ))) :
    ((Memref.whole (dref i)).view.loc (d : Thread nD τ) ↦[(Memref.whole (dref i)).view.set]{fullShare}
        ((Memref.whole (dref i)).view.write (Elt F) fd w Finset.univ)) ⊢ recvPay m d i := by
  subst h
  unfold recvPay
  simp only [Memref.view_whole, View.write_whole_univ, View.set_whole]
  exact BI.Entails.refl _

theorem slot_whole (d : Dev nD) (i : Fin 7) : (slot (F := F) d i)
    ⊢ iprop((∃ fd, (Memref.whole (dref i)).view.loc (d : Thread nD τ) ↦[(Memref.whole (dref i)).view.set]{fullShare} fd) ∗ reached ER (recvCell d i) 0) := by
  unfold slot
  simp only [Memref.view_whole, View.set_whole]
  exact BI.Entails.refl _

/-! ## The opening signals and wait -/

/-- The slots of device `c`, by the neighbour each goes to. -/
theorem slots_deal (c : Dev nD) : (bigSep Finset.univ fun i => slot (F := F) c i) = iprop(barPay (lf c) false ∗ barPay (rt c) true) := by
  rw [← bigSep_split_dirs, bigSep_univ_eq_bigSepL [false, true] (by decide) (by decide)]
  show iprop(bigSep (dirs false) _ ∗ bigSep (dirs true) _) = _
  unfold barPay
  rw [bigSep_congr (s := dirs false) fun i hi => show slot (F := F) c i = slot (dst (lf c) i) i by
      unfold dst; rw [(Finset.mem_filter.mp hi).2]; exact congrArg (slot · i) (rt_lf c).symm,
    bigSep_congr (s := dirs true) fun i hi => show slot (F := F) c i = slot (dst (rt c) i) i by
      unfold dst; rw [(Finset.mem_filter.mp hi).2]; exact congrArg (slot · i) (lf_rt c).symm]

/-- Both signals and the wait for two: the own slots go out, the neighbours' slots come in, the barrier cell is closed. -/
theorem wp_meet (κ : GSem nD τ sig → ℕ) (c : Dev nD) {n₁ n₂ : Dev nD} (h₁ : n₁ = lf c) (h₂ : n₂ = rt c) {a₁ a₂ a₃ : ℕ}
    (e₁ : a₁ = 1) (e₂ : a₂ = 1) (e₃ : a₃ = 2) {s : Sem sig} (hs : s = barS) {W : Waits sig Unit}
    {α : Type} {Q : α → sProp 𝕄} {k : PUnit → Prog (TpuEff nD τ sig (Elt F) Λ₀ .tc) α} :
    iprop(tools m κ ∗ (dutyTok ER (barCell (lf c)) 0 false ∗ dutyTok ER (barCell (rt c)) 0 true) ∗ pend (barCell c) 2
        ∗ (bigSep Finset.univ fun i => slot c i) ∗ owes (c : Thread nD τ) (O₀ c) W)
      ⊢ iprop(((owing c (later 0) ∗ semVal (barCell c) 0 ∗ bigSep Finset.univ fun i => slot (dst c i) i) -∗ runs c (k ⟨⟩) Q)
          -∗ runs c (.op (.semSignal (Dev.tc n₁ : Thread nD τ) s a₁) fun _ => .op (.semSignal (Dev.tc n₂ : Thread nD τ) s a₂) fun _ => .op (.semWait s a₃) k) Q) := by
  subst h₁ h₂ e₁ e₂ e₃ hs
  rw [slots_deal]
  unfold pend
  iintro ⟨#HT, ⟨HtL, HtR⟩, ⟨Hat, Hc⟩, ⟨HpL, HpR⟩, HO⟩ Hk
  iapply (Rounds.wp_signal 𝒱₀ ER (sched m) (c : Thread nD τ) none (dst := (lf c : Thread nD τ)) (κ := κ (barCell (lf c))) (d := false) (r := 0)
      (by rw [duties_bar]; exact Finset.mem_univ _) (amount_bar m (lf c) false) () (owedF c Finset.univ + tallyAt (barCell (rt c)) () 1) rfl)
    $$ [HO HtL HpL]
  · isplitr; · iapply (tools_bar m κ (lf c)); iexact HT
    isplitl [HO]; · iexact HO
    isplitl [HtL]; · iexact HtL
    isplitl [HpL]; · rw [payload_bar]; iexact HpL
    iapply (tools_reached m κ (lf c)); iexact HT
  iintro HO
  iapply (Rounds.wp_signal 𝒱₀ ER (sched m) (c : Thread nD τ) none (dst := (rt c : Thread nD τ)) (κ := κ (barCell (rt c))) (d := true) (r := 0)
      (by rw [duties_bar]; exact Finset.mem_univ _) (amount_bar m (rt c) true) () (owedF c Finset.univ) rfl)
    $$ [HO HtR HpR]
  · isplitr; · iapply (tools_bar m κ (rt c)); iexact HT
    isplitl [HO]; · iexact HO
    isplitl [HtR]; · iexact HtR
    isplitl [HpR]; · rw [payload_bar]; iexact HpR
    iapply (tools_reached m κ (rt c)); iexact HT
  iintro HO
  iapply (Rounds.wp_wait_rest_token 𝒱₀ ER (sched m) (c : Thread nD τ) none (κ := κ (barCell c))
      (wpE_semWait_eq 𝒱₀ (c : Thread nD τ) none Set.univ) (Set.mem_univ _) () (O := owedF c Finset.univ) (W := W) (R := 0) (m := 0) (T := ∅)
      (by rw [expect_bar])) $$ [Hc HO Hat]
  · isplitr; · iapply (tools_bar m κ c); iexact HT
    isplitl [Hc]; · iexact Hc
    isplitl [HO]; · iexact HO
    isplitr
    · iapply (mayWait c (.reg barS) Finset.univ 1 (by unfold lv; rw [role_bar]) (by decide)); iapply (tools_lev m κ); iexact HT
    iexact Hat
  iintro ⟨HO, Hat, -, Hpay⟩
  ihave HP := (Entails.of_eq (rest_bar m c)) $$ Hpay
  imod (Rounds.cell_close ER (sched m) (Set.mem_univ (κ (barCell c))) (fun h => h) (R := 0 + 1) (duties_later m _)) $$ [Hat] with Hz
  · isplitr; · iapply (tools_bar m κ c); iexact HT
    iexact Hat
  iapply Hk
  isplitl [HO]; · unfold owing; rw [show later 0 = Finset.univ by decide]; iexists _; iexact HO
  isplitl [Hz]; · iexact Hz
  iexact HP

/-! ## The body -/

section Run
variable (κ : GSem nD τ sig → ℕ) (c : Dev nD)

/-- Flow `i`'s buffer on device `c`, at any contents. -/
def bufAny (i : Fin 7) : sProp 𝕄 := iprop(∃ f : Buf (Elt F) ((c : Thread nD τ).loc (dref i)), ((c : Thread nD τ).loc (dref i)) ↦{fullShare} f)

/-- The protocol's part of what the body starts from, -/
def ghost : sProp 𝕄 :=
  iprop(tools m κ ∗ (dutyTok ER (barCell (lf c)) 0 false ∗ dutyTok ER (barCell (rt c)) 0 true) ∗ pend (barCell c) 2
    ∗ (bigSep Finset.univ fun i => line c i) ∗ (bigSep Finset.univ fun i => pend (recvCell c i) (amt i))
    ∗ (bigSep Finset.univ fun i => reached ER (recvCell c i) 0))

/-- and of what it ends with: every cell closed. -/
def shut : sProp 𝕄 :=
  iprop(semVal (barCell c) 0 ∗ (bigSep Finset.univ fun i => semVal (sendCell c i) 0) ∗ (bigSep Finset.univ fun i => semVal (recvCell c i) 0))

abbrev stg (b : Ref sig .tc) (X : b.ty.Contents (Elt F)) : sProp 𝕄 :=
  iprop(((c : Thread nD τ).loc b) ↦{fullShare} X)

theorem hz : (![0, 0] : Fin 2 → Nat) = fun _ => 0 := funext fun a => by fin_cases a <;> rfl

/-- The whole result as a rectangle. -/
abbrev rO : Rect S1024x2048 := Rect.unit (s := S1024x2048) ![0, 0] S1024x2048.size inb_S1024x2048_S1024x2048_0_0

/-- Loading or storing a whole buffer reads or leaves its contents. -/
theorem read_w (f : (cc0_stg1_0 : Ref sig .tc).ty.Contents (Elt F)) :
    (wM : Memref sig .tc .vmem S512x2048 .bf16).view.readAt (Elt F) (Rect.unit (s := S512x2048) ![0, 0] S512x2048.size inb_S512x2048_S512x2048_0_0).toLoadRect f = f :=
  Memref.readAt_unit_zero (Elt F) cc0_stg1_0 hz _ f
theorem read_o (f : (cc0_stg2_0 : Ref sig .tc).ty.Contents (Elt F)) :
    (oM : Memref sig .tc .vmem S1024x2048 .f32).view.readAt (Elt F) (Rect.unit (s := S1024x2048) ![0, 0] S1024x2048.size inb_S1024x2048_S1024x2048_0_0).toLoadRect f = f :=
  Memref.readAt_unit_zero (Elt F) cc0_stg2_0 hz _ f
theorem read0 (f : (cc0_scratch0 : Ref sig .tc).ty.Contents (Elt F)) :
    (Memref.whole cc0_scratch0 : Memref sig .tc .vmem S1024x512 .bf16).view.readAt (Elt F) (Rect.unit (s := S1024x512) ![0, 0] S1024x512.size inb_S1024x512_S1024x512_0_0).toLoadRect f = f :=
  Memref.readAt_unit_zero (Elt F) cc0_scratch0 hz _ f
theorem read1 (f : (cc0_scratch1 : Ref sig .tc).ty.Contents (Elt F)) :
    (Memref.whole cc0_scratch1 : Memref sig .tc .vmem S1024x512 .bf16).view.readAt (Elt F) (Rect.unit (s := S1024x512) ![0, 0] S1024x512.size inb_S1024x512_S1024x512_0_0).toLoadRect f = f :=
  Memref.readAt_unit_zero (Elt F) cc0_scratch1 hz _ f
theorem read2 (f : (cc0_scratch2 : Ref sig .tc).ty.Contents (Elt F)) :
    (Memref.whole cc0_scratch2 : Memref sig .tc .vmem S1024x512 .bf16).view.readAt (Elt F) (Rect.unit (s := S1024x512) ![0, 0] S1024x512.size inb_S1024x512_S1024x512_0_0).toLoadRect f = f :=
  Memref.readAt_unit_zero (Elt F) cc0_scratch2 hz _ f
theorem read4 (f : (cc0_scratch4 : Ref sig .tc).ty.Contents (Elt F)) :
    (Memref.whole cc0_scratch4 : Memref sig .tc .vmem S512x2048 .bf16).view.readAt (Elt F) (Rect.unit (s := S512x2048) ![0, 0] S512x2048.size inb_S512x2048_S512x2048_0_0).toLoadRect f = f :=
  Memref.readAt_unit_zero (Elt F) cc0_scratch4 hz _ f
theorem read5 (f : (cc0_scratch5 : Ref sig .tc).ty.Contents (Elt F)) :
    (Memref.whole cc0_scratch5 : Memref sig .tc .vmem S512x2048 .bf16).view.readAt (Elt F) (Rect.unit (s := S512x2048) ![0, 0] S512x2048.size inb_S512x2048_S512x2048_0_0).toLoadRect f = f :=
  Memref.readAt_unit_zero (Elt F) cc0_scratch5 hz _ f
theorem read6 (f : (cc0_scratch6 : Ref sig .tc).ty.Contents (Elt F)) :
    (Memref.whole cc0_scratch6 : Memref sig .tc .vmem S512x2048 .bf16).view.readAt (Elt F) (Rect.unit (s := S512x2048) ![0, 0] S512x2048.size inb_S512x2048_S512x2048_0_0).toLoadRect f = f :=
  Memref.readAt_unit_zero (Elt F) cc0_scratch6 hz _ f
theorem write_o (f w : (cc0_stg2_0 : Ref sig .tc).ty.Contents (Elt F)) :
    ((oM : Memref sig .tc .vmem S1024x2048 .f32).access (Rect.unit (s := S1024x2048) ![0, 0] S1024x2048.size inb_S1024x2048_S1024x2048_0_0) : View sig .tc _ _ _).write (Elt F) f w Finset.univ = w :=
  Memref.write_access_unit_zero_univ (Elt F) cc0_stg2_0 hz _ f w

end Run

end Cert.KernelIdeal.Flow

end
-- ==== Proof.Run.lean ====
/-
  The body's run on one device, step by step: every send by `wp_flow`, every wait by `wp_take` or `wp_back`.
-/
module

public import proofs.«01_k».proof.Proof.Body
@[expose] public section
set_option maxRecDepth 16384

noncomputable section
namespace Cert.KernelIdeal.Flow
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)
variable (κ : GSem nD τ sig → ℕ) (c : Dev nD)

/-- What each flow's source holds when it is sent is what lands. -/
theorem land0 : landed m (dst c 0) 0 = (xCut0 c).view.read (Elt F) (xs m c) := by
  show (xCut0 (lf (rt c))).view.read (Elt F) (xs m (lf (rt c))) = _; rw [lf_rt]
theorem land1 : landed m (dst c 1) 1 = (xCut1 c).view.read (Elt F) (xs m c) := by
  show (xCut1 (rt (lf c))).view.read (Elt F) (xs m (rt (lf c))) = _; rw [rt_lf]
theorem land2 : landed m (dst c 2) 2 = ws m c := congrArg (ws m) (lf_rt c)
theorem land3 : landed m (dst c 3) 3 = ws m c := congrArg (ws m) (rt_lf c)
theorem land4 : landed m (dst c 4) 4 = (xCut4 c).view.read (Elt F) (xs m c) := by
  show (xCut4 (rt (lf c))).view.read (Elt F) (xs m (rt (lf c))) = _; rw [rt_lf]
theorem land5 : landed m (dst c 5) 5 = landed m c 2 := congrArg (fun d => ws m (lf d)) (lf_rt c)
theorem land6 : landed m (dst c 6) 6 = landed m c 4 := by
  show (xCut4 (rt (rt (lf c)))).view.read (Elt F) (xs m (rt (rt (lf c)))) = _; rw [rt_lf]; rfl

/-- The buffers, whole again, once every flow has come and gone. -/
theorem bufs_back : iprop(recvPay m c 0 ∗ recvPay m c 1 ∗ (sendPay m c 5 ∗ (((c : Thread nD τ).loc cc0_scratch4) ↦{fullShare.right} landed m c 2))
      ∗ recvPay m c 3 ∗ sendPay m c 6 ∗ recvPay m c 5 ∗ recvPay m c 6)
    ⊢ (bigSep Finset.univ fun i => bufAny (F := F) c i) := by
  rw [← take2_parts, ← take4_eq, bigSep_fin7]
  unfold recvPay bufAny
  iintro ⟨H0, H1, H2, H3, H4, H5, H6⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

set_option maxHeartbeats 2000000 in
/-- The body's run on device `c`. -/
theorem body_run (W : Waits sig Unit) (fo : (cc0_stg2_0 : Ref sig .tc).ty.Contents (Elt F)) (Q : PUnit → sProp 𝕄) :
    iprop((ghost m κ c ∗ (bigSep Finset.univ fun i => bufAny c i) ∗ owes (c : Thread nD τ) (O₀ c) W
          ∗ stg c cc0_stg0_0 (xs m c) ∗ stg c cc0_stg1_0 (ws m c) ∗ stg c cc0_stg2_0 fo)
        ∗ ((shut c ∗ (bigSep Finset.univ fun i => bufAny c i) ∗ owing c (later 7)
          ∗ stg c cc0_stg0_0 (xs m c) ∗ stg c cc0_stg1_0 (ws m c) ∗ stg c cc0_stg2_0 (acc4 m c)) -∗ Q ⟨⟩))
      ⊢ runs c (cc0_body xM (Memref.isWhole_whole _) wM (Memref.isWhole_whole _) oM (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) cc0_scratch7 cc0_scratch8) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  iintro ⟨⟨Hg, Hb, HO, Hx, Hw, Ho⟩, Hk⟩
  unfold ghost
  icases Hg with ⟨#HT, Htb, Hpb, Hl, Hp, Hr⟩
  ihave Hsl := (show iprop((bigSep Finset.univ fun i => bufAny (F := F) c i) ∗ bigSep Finset.univ fun i => reached ER (recvCell c i) 0)
      ⊢ bigSep Finset.univ fun i => slot c i from Entails.of_eq (bigSep_sep' _ _ _).symm) $$ [Hb Hr]
  · isplitl [Hb] <;> iassumption
  iapply (wp_meet m κ c (dev1_eq c) (dev2_eq c) rfl rfl rfl rfl) $$ [Htb Hpb Hsl HO]
  · isplitr; · iexact HT
    isplitl [Htb]; · iexact Htb
    isplitl [Hpb]; · iexact Hpb
    isplitl [Hsl]; · iexact Hsl
    iexact HO
  iintro ⟨HO, Hzb, Hsl⟩
  ihave Hx := (Entails.of_eq (x_parts m c)) $$ Hx
  icases Hx with ⟨Hx0, Hx1, Hx4, Hxk, Hx⟩
  ihave Hw := (Entails.of_eq (w_parts m c)) $$ Hw
  icases Hw with ⟨⟨Hw2, Hw3⟩, Hw⟩
  ihave Hsl := (Entails.of_eq (bigSep_fin7 _)) $$ Hsl
  icases Hsl with ⟨Hd0, Hd1, Hd2, Hd3, Hd4, Hd5, Hd6⟩
  ihave Hl := (Entails.of_eq (bigSep_fin7 _)) $$ Hl
  icases Hl with ⟨Hl0, Hl1, Hl2, Hl3, Hl4, Hl5, Hl6⟩
  ihave Hp := (Entails.of_eq (bigSep_fin7 _)) $$ Hp
  icases Hp with ⟨Hp0, Hp1, Hp2, Hp3, Hp4, Hp5, Hp6⟩
  iapply (wp_flow m κ c 0 (dev3_eq c) (src := xCut0 c) (dm := Memref.whole cc0_scratch0) (fs := xs m c) rfl rfl rfl rfl (slot_whole _ 0) (land_whole m _ 0 (land0 m c))) $$ [Hl0 Hd0 HO Hx0]
  · isplitr; · iexact HT
    isplitl [Hl0]; · iexact Hl0
    isplitl [Hd0]; · iexact Hd0
    isplitl [HO]; · iexact HO
    iexact Hx0
  iintro ⟨Hs0, HO⟩
  iapply (wp_flow m κ c 1 (dev4_eq c) (src := xCut1 c) (dm := Memref.whole cc0_scratch1) (fs := xs m c) rfl rfl rfl rfl (slot_whole _ 1) (land_whole m _ 1 (land1 m c))) $$ [Hl1 Hd1 HO Hx1]
  · isplitr; · iexact HT
    isplitl [Hl1]; · iexact Hl1
    isplitl [Hd1]; · iexact Hd1
    isplitl [HO]; · iexact HO
    iexact Hx1
  iintro ⟨Hs1, HO⟩
  iapply (wp_flow m κ c 2 (dev5_eq c) (src := wM) (dm := Memref.whole cc0_scratch4) (fs := ws m c) rfl rfl rfl rfl (slot_whole _ 2) (land_whole m _ 2 (land2 m c))) $$ [Hl2 Hd2 HO Hw2]
  · isplitr; · iexact HT
    isplitl [Hl2]; · iexact Hl2
    isplitl [Hd2]; · iexact Hd2
    isplitl [HO]; · iexact HO
    iexact Hw2
  iintro ⟨Hs2, HO⟩
  iapply (wp_flow m κ c 3 (dev6_eq c) (src := wM) (dm := Memref.whole cc0_scratch5) (fs := ws m c) rfl rfl rfl rfl (slot_whole _ 3) (land_whole m _ 3 (land3 m c))) $$ [Hl3 Hd3 HO Hw3]
  · isplitr; · iexact HT
    isplitl [Hl3]; · iexact Hl3
    isplitl [Hd3]; · iexact Hd3
    isplitl [HO]; · iexact HO
    iexact Hw3
  iintro ⟨Hs3, HO⟩
  iapply (wp_flow m κ c 4 (dev7_eq c) (src := xCut4 c) (dm := Memref.whole cc0_scratch3) (fs := xs m c) rfl rfl rfl rfl (slot_whole _ 4) (land_whole m _ 4 (land4 m c))) $$ [Hl4 Hd4 HO Hx4]
  · isplitr; · iexact HT
    isplitl [Hl4]; · iexact Hl4
    isplitl [Hd4]; · iexact Hd4
    isplitl [HO]; · iexact HO
    iexact Hx4
  iintro ⟨Hs4, HO⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply (wp_take m κ c 2 rfl 5 (by decide) (dm := Memref.whole cc0_scratch4) rfl) $$ [Hp2 HO]
  · isplitr; · iexact HT
    isplitl [Hp2]; · iexact Hp2
    iexact HO
  iintro ⟨HO, Hr2, Hb2⟩
  ihave Hb2 := (Entails.of_eq (take2_parts m c)) $$ Hb2
  icases Hb2 with ⟨Hy5, Hb2⟩
  iapply (wp_flow m κ c 5 (dev8_eq c) (src := Memref.whole cc0_scratch4) (dm := Memref.whole cc0_scratch6) (fs := landed m c 2) rfl rfl rfl rfl (slot_whole _ 5) (land_whole m _ 5 (land5 m c))) $$ [Hl5 Hd5 HO Hy5]
  · isplitr; · iexact HT
    isplitl [Hl5]; · iexact Hl5
    isplitl [Hd5]; · iexact Hd5
    isplitl [HO]; · iexact HO
    iexact Hy5
  iintro ⟨Hs5, HO⟩
  iapply (wp_take m κ c 0 rfl 6 (by decide) (dm := Memref.whole cc0_scratch0) rfl) $$ [Hp0 HO]
  · isplitr; · iexact HT
    isplitl [Hp0]; · iexact Hp0
    iexact HO
  iintro ⟨HO, Hr0, Hb0⟩
  unfold recvPay
  iapply (wp_load 𝒱₀ (c : Thread nD τ) none Set.univ (m := oM) (Finset.subset_univ _)) $$ Ho; iintro Ho
  rw [read_o]
  iapply (wp_load 𝒱₀ (c : Thread nD τ) none Set.univ (m := (Memref.whole cc0_scratch0)) (Finset.subset_univ _)) $$ Hb0; iintro Hb0
  rw [read0]
  iapply (wp_load 𝒱₀ (c : Thread nD τ) none Set.univ (m := (Memref.whole cc0_scratch4)) (Finset.subset_univ _)) $$ Hb2; iintro Hb2
  rw [read4]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply (wp_take m κ c 4 rfl 6 (by decide) (dm := Memref.whole cc0_scratch3) rfl) $$ [Hp4 HO]
  · isplitr; · iexact HT
    isplitl [Hp4]; · iexact Hp4
    iexact HO
  iintro ⟨HO, Hr4, Hb4⟩
  ihave Hb4 := (Entails.of_eq (take4_eq m c)) $$ Hb4
  iapply (wp_flow m κ c 6 (dev9_eq c) (src := Memref.whole cc0_scratch3) (dm := Memref.whole cc0_scratch2) (fs := landed m c 4) rfl rfl rfl rfl (slot_whole _ 6) (land_whole m _ 6 (land6 m c))) $$ [Hl6 Hd6 HO Hb4]
  · isplitr; · iexact HT
    isplitl [Hl6]; · iexact Hl6
    isplitl [Hd6]; · iexact Hd6
    isplitl [HO]; · iexact HO
    iexact Hb4
  iintro ⟨Hs6, HO⟩
  iapply (wp_take m κ c 1 rfl 7 (by decide) (dm := Memref.whole cc0_scratch1) rfl) $$ [Hp1 HO]
  · isplitr; · iexact HT
    isplitl [Hp1]; · iexact Hp1
    iexact HO
  iintro ⟨HO, Hr1, Hb1⟩
  iapply (wp_take m κ c 3 rfl 7 (by decide) (dm := Memref.whole cc0_scratch5) rfl) $$ [Hp3 HO]
  · isplitr; · iexact HT
    isplitl [Hp3]; · iexact Hp3
    iexact HO
  iintro ⟨HO, Hr3, Hb3⟩
  unfold recvPay
  iapply (wp_load 𝒱₀ (c : Thread nD τ) none Set.univ (m := oM) (Finset.subset_univ _)) $$ Ho; iintro Ho
  rw [read_o]
  iapply (wp_load 𝒱₀ (c : Thread nD τ) none Set.univ (m := (Memref.whole cc0_scratch1)) (Finset.subset_univ _)) $$ Hb1; iintro Hb1
  rw [read1]
  iapply (wp_load 𝒱₀ (c : Thread nD τ) none Set.univ (m := (Memref.whole cc0_scratch5)) (Finset.subset_univ _)) $$ Hb3; iintro Hb3
  rw [read5]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply (wp_take m κ c 5 rfl 7 (by decide) (dm := Memref.whole cc0_scratch6) rfl) $$ [Hp5 HO]
  · isplitr; · iexact HT
    isplitl [Hp5]; · iexact Hp5
    iexact HO
  iintro ⟨HO, Hr5, Hb5⟩
  iapply (wp_take m κ c 6 rfl 7 (by decide) (dm := Memref.whole cc0_scratch2) rfl) $$ [Hp6 HO]
  · isplitr; · iexact HT
    isplitl [Hp6]; · iexact Hp6
    iexact HO
  iintro ⟨HO, Hr6, Hb6⟩
  unfold recvPay
  iapply (wp_load 𝒱₀ (c : Thread nD τ) none Set.univ (m := oM) (Finset.subset_univ _)) $$ Ho; iintro Ho
  rw [read_o]
  iapply (wp_load 𝒱₀ (c : Thread nD τ) none Set.univ (m := (Memref.whole cc0_scratch2)) (Finset.subset_univ _)) $$ Hb6; iintro Hb6
  rw [read2]
  iapply (wp_load 𝒱₀ (c : Thread nD τ) none Set.univ (m := (Memref.whole cc0_scratch6)) (Finset.subset_univ _)) $$ Hb5; iintro Hb5
  rw [read6]
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply (wp_back m κ c 0 rfl (dm := xCut0 c) rfl) $$ [Hs0 HO]
  · isplitr; · iexact HT
    isplitl [Hs0]; · iexact Hs0
    iexact HO
  iintro ⟨HO, Hq0, Hy0⟩
  iapply (wp_back m κ c 1 rfl (dm := xCut1 c) rfl) $$ [Hs1 HO]
  · isplitr; · iexact HT
    isplitl [Hs1]; · iexact Hs1
    iexact HO
  iintro ⟨HO, Hq1, Hy1⟩
  iapply (wp_back m κ c 2 rfl (dm := wM) rfl) $$ [Hs2 HO]
  · isplitr; · iexact HT
    isplitl [Hs2]; · iexact Hs2
    iexact HO
  iintro ⟨HO, Hq2, Hy2⟩
  iapply (wp_back m κ c 3 rfl (dm := wM) rfl) $$ [Hs3 HO]
  · isplitr; · iexact HT
    isplitl [Hs3]; · iexact Hs3
    iexact HO
  iintro ⟨HO, Hq3, Hy3⟩
  iapply (wp_back m κ c 4 rfl (dm := xCut4 c) rfl) $$ [Hs4 HO]
  · isplitr; · iexact HT
    isplitl [Hs4]; · iexact Hs4
    iexact HO
  iintro ⟨HO, Hq4, Hy4⟩
  iapply (wp_back m κ c 5 rfl (dm := Memref.whole cc0_scratch4) rfl) $$ [Hs5 HO]
  · isplitr; · iexact HT
    isplitl [Hs5]; · iexact Hs5
    iexact HO
  iintro ⟨HO, Hq5, Hy5⟩
  iapply (wp_back m κ c 6 rfl (dm := Memref.whole cc0_scratch3) rfl) $$ [Hs6 HO]
  · isplitr; · iexact HT
    isplitl [Hs6]; · iexact Hs6
    iexact HO
  iintro ⟨HO, Hq6, Hy6⟩
  unfold runs; rw [wp_ret]; imodintro
  iapply Hk
  isplitl [Hzb Hq0 Hq1 Hq2 Hq3 Hq4 Hq5 Hq6 Hr0 Hr1 Hr2 Hr3 Hr4 Hr5 Hr6]
  · unfold shut
    rw [bigSep_fin7, bigSep_fin7]
    isplitl [Hzb]; · iexact Hzb
    isplitl [Hq0 Hq1 Hq2 Hq3 Hq4 Hq5 Hq6]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      iexact Hq6
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [Hb0 Hb1 Hb2 Hb3 Hb5 Hb6 Hy5 Hy6]
  · iapply (bufs_back m c)
    unfold recvPay
    isplitl [Hb0]; · iexact Hb0
    isplitl [Hb1]; · iexact Hb1
    isplitl [Hb2 Hy5]
    · isplitl [Hy5]; · iexact Hy5
      iexact Hb2
    isplitl [Hb3]; · iexact Hb3
    isplitl [Hy6]; · iexact Hy6
    isplitl [Hb5]; · iexact Hb5
    iexact Hb6
  isplitl [HO]; · iexact HO
  isplitl [Hx Hxk Hy0 Hy1 Hy4]
  · iapply (Entails.of_eq (x_parts m c).symm)
    isplitl [Hy0]; · iexact Hy0
    isplitl [Hy1]; · iexact Hy1
    isplitl [Hy4]; · iexact Hy4
    isplitl [Hxk]; · iexact Hxk
    iexact Hx
  isplitl [Hw Hy2 Hy3]
  · iapply (Entails.of_eq (w_parts m c).symm)
    isplitl [Hy2 Hy3]
    · isplitl [Hy2]; · iexact Hy2
      iexact Hy3
    iexact Hw
  iexact Ho

end Cert.KernelIdeal.Flow
end
-- ==== Proof.Data.lean ====
/-
  The one region's proof data: what its windows hold before and after the body, the invariant on either side of it,
  and the obligation of the body, which `body_run` meets.
-/
module

public import proofs.«01_k».proof.Proof.Run
@[expose] public section
set_option maxRecDepth 16384

noncomputable section
namespace Cert.KernelIdeal.Flow
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)

/-! ## The data -/

/-- The invariant before the body: the protocol's part under some names, the seven buffers, the generator's register; -/
def early (c : Dev nD) : sProp 𝕄 :=
  iprop((∃ κ, ghost m κ c) ∗ (bigSep Finset.univ fun i => bufAny c i) ∗ ∃ r, prngReg c r)
/-- and after it: every cell closed. -/
def late (c : Dev nD) : sProp 𝕄 :=
  iprop(shut c ∗ (bigSep Finset.univ fun i => bufAny c i) ∗ ∃ r, prngReg c r)

/-- The windows come in at the arrays' contents and leave at x, w and the finished sum. -/
def dat (c : Dev nD) : Dat τ (Elt F) Unit ℕ UU ℕ cfg0 c where
  A w := V m c (Pipeline.arrRef spec0 w)
  after w _ := match w with
    | ⟨0, _⟩ => xs m c
    | ⟨1, _⟩ => ws m c
    | ⟨2, _⟩ => acc4 m c
  Φ t := if t.val = 0 then early m c else late c
  q _ := fullShare
  owed t := if t.val = 0 then O₀ c else 0

theorem last_ne : ¬ ((Fin.last cfg0.N).val = 0) := by rw [Fin.val_last]; exact (by decide : ¬ cfg0.N = 0)

theorem inv_first (c : Dev nD) : (dat m c).Φ 0 = early m c := rfl
theorem inv_last (c : Dev nD) : (dat m c).Φ (Fin.last _) = late c := by dsimp only [dat]; exact if_neg last_ne
theorem owed_first (c : Dev nD) : (dat m c).owed 0 = O₀ c := rfl
theorem owed_last (c : Dev nD) : (dat m c).owed (Fin.last _) = 0 := by dsimp only [dat]; exact if_neg last_ne
theorem whole_share (c : Dev nD) (w : Fin 3) : (dat m c).share w = fullShare := by
  unfold Dat.share; split <;> rfl

/-! ## The body's obligation -/

/-- Before the body the input windows hold x and w. -/
theorem before_x (c : Dev nD) (d) : (dat m c).before 0 t0_0 d = xs m c := by
  unfold Dat.before; rw [if_pos (fetch0_0 t0_0)]; rfl
theorem before_w (c : Dev nD) (d) : (dat m c).before 1 t0_0 d = ws m c := by
  unfold Dat.before; rw [if_pos (fetch0_1 t0_0)]; rfl

/-- Owning a whole buffer at `X` is pointing to it at `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  refine eq_of_entails ?_ ?_
  · simp only [Memref.view_whole, View.read_whole, View.set_whole]
    iintro ⟨%f, %h, H⟩; rw [← h]; iexact H
  · simp only [Memref.view_whole, View.read_whole, View.set_whole]
    iintro H; iexists X; isplitr; · ipureintro; rfl
    iexact H

theorem none_later : later 7 = ∅ := by decide

/-- What the body is entered with and what it must leave. -/
def entry (c : Dev nD) : sProp 𝕄 :=
  iprop(early m c ∗ (dat m c).owesAt () t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
def exit (c : Dev nD) : sProp 𝕄 :=
  iprop(late c ∗ (dat m c).owesAt () t0_0.succ
    ∗ stg c cc0_stg0_0 (xs m c) ∗ stg c cc0_stg1_0 (ws m c) ∗ stg c cc0_stg2_0 (acc4 m c))

theorem obligation (c : Dev nD) : BodyObligation (dat (F := F) m c) (defs₀ (F := F)) 𝒱₀ () Set.univ := fun t => by
  rw [fin_N0 t]
  rw [bigSep_W0, bigSep_W0]
  simp only [owns_whole]
  show entry m c ⊢ runs c (cc0_body xM (Memref.isWhole_whole _) wM (Memref.isWhole_whole _) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8) (fun _ => exit m c)
  unfold entry exit early late Dat.owesAt Pipeline.owesWithin
  rw [show (dat m c).owed t0_0.castSucc = O₀ c from rfl, show (dat m c).owed t0_0.succ = 0 from rfl]
  iintro ⟨⟨⟨%κ, Hg⟩, Hb, Hr⟩, ⟨%W, %hW, HO⟩, ⟨%d0, Hx⟩, ⟨%d1, Hw⟩, ⟨%d2, Ho⟩⟩
  rw [before_x, before_w]
  iapply (body_run m κ c W _ (fun _ => _))
  isplitl [Hg Hb HO Hx Hw Ho]
  · isplitl [Hg]; · iexact Hg
    isplitl [Hb]; · iexact Hb
    isplitl [HO]; · iexact HO
    isplitl [Hx]; · iexact Hx
    isplitl [Hw]; · iexact Hw
    iexact Ho
  unfold owing
  rw [none_later, owedF_empty]
  iintro ⟨Hs, Hb, ⟨%W', HO⟩, Hx, Hw, Ho⟩
  isplitl [Hs Hb Hr]
  · isplitl [Hs]; · iexact Hs
    isplitl [Hb]; · iexact Hb
    iexact Hr
  isplitl [HO]
  · iexists W'; isplitr; · ipureintro; exact fun _ _ => Or.inl trivial
    iexact HO
  isplitl [Hx]; · iexact Hx
  isplitl [Hw]; · iexact Hw
  iexact Ho

end Cert.KernelIdeal.Flow
end
-- ==== Proof.Region.lean ====
/-
  The region around the body: what the launch keeps asleep for it, its DMA cells opened on the way in, and the record
  the launch runs.
-/
module

public import proofs.«01_k».proof.Proof.Data
@[expose] public section
set_option maxRecDepth 16384

noncomputable section
namespace Cert.KernelIdeal.Flow
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

/-! ## Buffers -/

/-- The unscoped buffers, the windows' arrays among them, and the others. -/
abbrev bufs : Finset (DevRef τ sig) := Pipeline.ucRefs τ sig
abbrev arrs : Finset (DevRef τ sig) := Pipeline.arrRefs (τ := τ) (pcfgs (F := F) 0).spec
abbrev others : Finset (DevRef τ sig) := bufs \ arrs (F := F)

theorem arrs_sub : arrs (F := F) ⊆ bufs := Pipeline.arrRefs_sub_ucRefs _ launch0.win.arr_unscoped

/-- The valuation after the region: the result array at what the one write-back left. -/
def W1 (c : Dev nD) : Valuation τ sig (Elt F) :=
  Function.update (V0 m c) (Proc.devRef .tc main_v6) ((dat m c).arrAt 2 cfg0.N)

theorem W1_ne (c : Dev nD) (b : DevRef τ sig) (h : b ≠ Proc.devRef .tc main_v6) : W1 m c b = V0 m c b :=
  Function.update_of_ne h _ _

theorem W1_v6 (c : Dev nD) : W1 m c (Proc.devRef .tc main_v6) = (dat m c).arrAt 2 cfg0.N := Function.update_self _ _ _

theorem arrays_before (c : Dev nD) (w : Fin 3) : (dat m c).arrAt w 0 = V0 m c (Proc.devRef .tc (Pipeline.arrRef spec0 w)) := rfl

theorem arrays_after (c : Dev nD) (w : Fin 3) : (dat m c).arrAt w cfg0.N = W1 m c (Proc.devRef .tc (Pipeline.arrRef spec0 w)) := by
  fin_cases w
  · exact ((dat m c).arrAt_in 0 rfl _).trans (W1_ne m c (Proc.devRef .tc main_v4) (StableHlo.devRef_ne_of_ne (by decide))).symm
  · exact ((dat m c).arrAt_in 1 rfl _).trans (W1_ne m c (Proc.devRef .tc main_v5) (StableHlo.devRef_ne_of_ne (by decide))).symm
  · exact (W1_v6 m c).symm

theorem v6_arr : Proc.devRef .tc main_v6 ∈ arrs (F := F) :=
  Finset.mem_map_of_mem _ (Finset.mem_image.mpr ⟨(2 : Fin 3), Finset.mem_univ _, rfl⟩)

theorem others_same (c : Dev nD) : ∀ b ∈ others (F := F) \ ∅, W1 m c b = V0 m c b := fun b hb =>
  W1_ne m c b fun e => (Finset.mem_sdiff.mp (Finset.mem_sdiff.mp hb).1).2 (e ▸ v6_arr)

/-- Held over the unscoped buffers is held over the arrays and over the others. -/
theorem held_arrs (c : Dev nD) (W : Valuation τ sig (Elt F)) :
    (StableHlo.held (c : Thread nD τ) bufs W : sProp 𝕄)
      = iprop(StableHlo.held (c : Thread nD τ) (arrs (F := F)) W ∗ StableHlo.held (c : Thread nD τ) (others (F := F)) W) :=
  StableHlo.held_sub_split _ arrs_sub W

theorem held_nothing (c : Dev nD) (W : Valuation τ sig (Elt F)) :
    (StableHlo.held (c.tc : Thread nD τ) ∅ W : sProp 𝕄) = iprop(emp) := by
  unfold StableHlo.held; rw [BI.bigSep_empty]; rfl

/-- The seven flows' buffers are the scoped buffers no window stages. -/
theorem rest_bufs (c : Dev nD) :
    (Pipeline.scopedRest (Ix := Unit) (Name := ℕ) (U := UU) (Lvl := ℕ) (Val := Elt F) spec0 c : sProp 𝕄)
      = (bigSep Finset.univ fun i => bufAny (F := F) c i) := by
  rw [scopedRest0_eq, bigSep_fin7]
  unfold bufAny
  refine eq_of_entails ?_ ?_
  · iintro ⟨H0, H1, H2, H3, H4, H5, H6⟩
    isplitl [H0]; · iexact H0
    isplitl [H1]; · iexact H1
    isplitl [H4]; · iexact H4
    isplitl [H5]; · iexact H5
    isplitl [H3]; · iexact H3
    isplitl [H6]; · iexact H6
    iexact H2
  · iintro ⟨H0, H1, H4, H5, H3, H6, H2⟩
    isplitl [H0]; · iexact H0
    isplitl [H1]; · iexact H1
    isplitl [H2]; · iexact H2
    isplitl [H3]; · iexact H3
    isplitl [H4]; · iexact H4
    isplitl [H5]; · iexact H5
    iexact H6

/-! ## Asleep and awake -/

/-- The tokens of the duties device `c` performs by its flows. -/
def pays (c : Dev nD) (i : Fin 7) : sProp 𝕄 :=
  iprop(dutyTok ER (sendCell c i) 0 false ∗ dutyTok ER (recvCell (dst c i) i) 0 false)

/-- What the launch keeps for device `c`: its DMA cells are still to be opened. -/
def asleep (κ : GSem nD τ sig → ℕ) (c : Dev nD) : sProp 𝕄 :=
  iprop(tools m κ ∗ (dutyTok ER (barCell (lf c)) 0 false ∗ dutyTok ER (barCell (rt c)) 0 true) ∗ pend (barCell c) 2
    ∗ (bigSep Finset.univ fun k => openTok ER ((c : Thread nD τ), osem k))
    ∗ (bigSep Finset.univ fun i => pays c i)
    ∗ (bigSep Finset.univ fun i => cred (tallyAt (recvCell c i) () (amt i))))

/-- Over the DMA semaphores is over the send and over the receive semaphores. -/
theorem both_sides (Φ : Fin 7 ⊕ Fin 7 → sProp 𝕄) :
    bigSep Finset.univ Φ = iprop((bigSep Finset.univ fun i => Φ (.inl i)) ∗ bigSep Finset.univ fun i => Φ (.inr i)) :=
  BI.bigSep_univ_sum Φ

/-- A device's DMA cells, opened together. -/
theorem wake (κ : GSem nD τ sig → ℕ) (c : Dev nD) :
    iprop(tools m κ ∗ (bigSep Finset.univ fun k => openTok ER ((c : Thread nD τ), osem k)) ∗ Pipeline.ownSems0 osem c)
      ⊢ (|={Set.univ}=> bigSep Finset.univ fun k =>
          iprop(atPos ER ((c : Thread nD τ), osem k) 0 ∅ 0 ∗ reached ER ((c : Thread nD τ), osem k) 0) : sProp 𝕄) := by
  have one (k : Fin 7 ⊕ Fin 7) : iprop(tools m κ ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
    have hk : ((c : Thread nD τ), osem k) ∈ dmaCells := Finset.mem_map_of_mem dmaEmb (Finset.mem_univ (c, k))
    iintro ⟨HT, HO, HV⟩
    iapply (Rounds.cell_open ER (sched m) (g := ((c : Thread nD τ), osem k)) (Set.mem_univ (κ ((c : Thread nD τ), osem k))))
    isplitl [HT]; · iapply (tools_dma m κ hk) $$ HT
    isplitl [HO]; · iexact HO
    iexact HV
  refine BI.Entails.trans ?_ (bigSep_fupd Finset.univ _)
  refine BI.Entails.trans ?_ (bigSep_with_persistent (R := tools m κ) fun k _ => one k)
  unfold Pipeline.ownSems0
  show iprop(tools m κ ∗ (bigSep Finset.univ fun k => openTok ER ((c : Thread nD τ), osem k)) ∗ bigSep Finset.univ fun k => semVal ((c : Thread nD τ), osem k) 0)
    ⊢ iprop(tools m κ ∗ bigSep Finset.univ fun k => iprop(openTok ER ((c : Thread nD τ), osem k) ∗ semVal ((c : Thread nD τ), osem k) 0))
  iintro ⟨HT, HO, HV⟩
  isplitl [HT]; · iexact HT
  iapply bigSep_pair
  isplitl [HO]; · iexact HO
  iexact HV

theorem line_made (c : Dev nD) (i : Fin 7) :
    iprop((atPos ER ((c : Thread nD τ), osem (.inl i)) 0 ∅ 0 ∗ reached ER ((c : Thread nD τ), osem (.inl i)) 0) ∗ pays c i) ⊢ (line c i : sProp 𝕄) := by
  unfold line pays
  iintro ⟨⟨Ha, Hr⟩, Ht, Hu⟩
  isplitl [Ha]; · iexact Ha
  isplitl [Hr]; · iexact Hr
  isplitl [Ht]; · iexact Ht
  iexact Hu

def Tk (c : Dev nD) : sProp 𝕄 := iprop(∃ κ, asleep m κ c)
def Xk (c : Dev nD) : sProp 𝕄 := iprop(∃ κ, ghost m κ c)
def Yk (c : Dev nD) : sProp 𝕄 := semVal (barCell c) 0

theorem opens (c : Dev nD) : iprop(Tk m c ∗ Pipeline.ownSems0 osem c ∗ levAts L lv) ⊢ (|={Set.univ}=> Xk m c : sProp 𝕄) := by
  unfold Tk Xk asleep
  iintro ⟨⟨%κ, #HT, Hbars, Hbar, Hop, Hpay, Hcr⟩, Hos, -⟩
  imod (wake m κ c) $$ [Hop Hos] with Hk
  · isplitr; · iexact HT
    isplitl [Hop]; · iexact Hop
    iexact Hos
  imodintro
  iexists κ
  unfold ghost
  ihave Hk' := (Entails.of_eq (both_sides (F := F) fun k =>
    iprop(atPos ER ((c : Thread nD τ), osem k) 0 ∅ 0 ∗ reached ER ((c : Thread nD τ), osem k) 0))) $$ Hk
  icases Hk' with ⟨Hs, Hr⟩
  ihave Hr' := bigSep_unpair $$ Hr
  icases Hr' with ⟨Hra, Hrr⟩
  isplitr; · iexact HT
  isplitl [Hbars]; · iexact Hbars
  isplitl [Hbar]; · iexact Hbar
  isplitl [Hs Hpay]
  · ihave H := (bigSep_pair (Φ := fun i : Fin 7 => iprop(atPos ER ((c : Thread nD τ), osem (.inl i)) 0 ∅ 0 ∗ reached ER ((c : Thread nD τ), osem (.inl i)) 0))
      (Ψ := fun i => (pays c i : sProp 𝕄))) $$ [Hs Hpay]
    · isplitl [Hs]; · iexact Hs
      iexact Hpay
    have e : (bigSep Finset.univ fun i : Fin 7 => iprop((atPos ER ((c : Thread nD τ), osem (.inl i)) 0 ∅ 0 ∗ reached ER ((c : Thread nD τ), osem (.inl i)) 0) ∗ pays c i))
        ⊢ (bigSep Finset.univ fun i => line c i : sProp 𝕄) := bigSep_mono fun i _ => line_made c i
    iapply e $$ H
  isplitl [Hra Hcr]
  · unfold pend
    iapply bigSep_pair
    isplitl [Hra]; · iexact Hra
    iexact Hcr
  iexact Hrr

/-! ## The record -/

theorem enters (c : Dev nD) :
    iprop(Pipeline.scopedRest (Pipeline.pin (pcfgs (F := F)) adm 0).spec c ∗ (∃ r, prngReg c r) ∗ StableHlo.held (c.tc : Thread nD τ) ∅ (V0 m c) ∗ Xk m c)
      ⊢ (pdats m 0 c).Φ 0 := by
  rw [show (pdats m 0 c).Φ 0 = early m c from rfl, rest_bufs]
  unfold early Xk
  iintro ⟨Hb, Hp, -, Hg⟩
  isplitl [Hg]; · iexact Hg
  isplitl [Hb]; · iexact Hb
  iexact Hp

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W1 m c)
        ∗ Pipeline.ownSems0 osem c ∗ Yk c) := by
  rw [show (pdats m 0 c).Φ (Fin.last _) = late c from inv_last m c, rest_bufs, held_nothing]
  unfold late shut Yk Pipeline.ownSems0
  rw [both_sides]
  iintro ⟨⟨Hbar, Hs, Hr⟩, Hb, Hp⟩
  isplitl [Hb]; · iexact Hb
  isplitl [Hp]; · iexact Hp
  isplitr; · iempintro
  isplitl [Hs Hr]
  · isplitl [Hs]; · iexact Hs
    iexact Hr
  iexact Hbar

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide

theorem staging_low : ∀ (w : Fin 3) (s : Fin (spec0 w).nbuf), role (.dma ((spec0 w).sem s)) = .other := by decide

theorem cut_owed (c : Dev nD) (t : Fin (cfg0.N + 1)) (g : GSem nD τ sig) (u : Unit) (h : 0 < (dat (F := F) m c).owed t g u) :
    u ∈ L g ∧ (0 : ℕ) < lv g u := by
  have e : (dat (F := F) m c).owed t = if t.val = 0 then O₀ c else 0 := rfl
  rw [e] at h
  split at h
  · rcases O₀_pos h with ⟨i, rfl⟩ | ⟨d, rfl⟩
    · refine ⟨by rw [L_tc]; exact Finset.mem_singleton_self _, ?_⟩
      unfold lv; rw [role_recv]; exact (by decide : ∀ i : Fin 7, 0 < lvR i) i
    · refine ⟨by rw [L_tc]; exact Finset.mem_singleton_self _, ?_⟩
      unfold lv; rw [role_bar]; exact Nat.one_pos
  · exact absurd h (Nat.lt_irrefl 0)

local notation "ℝ𝕊" => Pipeline.RegionSeg (pcfgs (F := F)) adm (pdats m) () defs₀ 𝒱₀ L lv

set_option backward.isDefEq.respectTransparency.types false in
def region : ℝ𝕊 0 :=
  Pipeline.RegionSeg.ofTalk (pcfgs (F := F)) adm (pdats m) () defs₀ 𝒱₀ L lv 0 osem own_sems
    ∅ (others (F := F)) (Finset.empty_subset _) kit rfl (fun c => (obligation m c).loose)
    (fun _ => 0) O₀ (fun c => (owed_first m c).trans (zero_add _).symm) (fun c => owed_last m c) (fun _ => rfl) (fun c w => whole_share m c w)
    (V0 m) (W1 m) (fun c => others_same m c)
    (Tk m) Yk (Xk m) Yk (fun c => opens m c) (fun c => enters m c) (fun c => leaves m c)
    (fun c => by iintro H; imodintro; iexact H)
    (fun _ => 0)
    ⟨fun c w s => by rw [L_tc]; exact Finset.mem_singleton_self _,
      fun c w s => by
        show lv ((c : Thread nD τ), .dma ((spec0 w).sem s)) () ≤ 0
        unfold lv; rw [staging_low],
      fun c t g i h => cut_owed m c t g i h⟩
    (fun _ => iprop(emp))
    (fun c w => arrays_before m c w) (fun c w => arrays_after m c w)

end Cert.KernelIdeal.Flow
end
-- ==== Proof.Launch.lean ====
/-
  The launch: every cell's invariant is allocated, the DMA cells asleep; tokens and credit are dealt to the devices that
  use them; then host lines, region, host lines, in order.
-/
module

public import proofs.«01_k».proof.Proof.Region
@[expose] public section
set_option maxRecDepth 16384

noncomputable section
namespace Cert.KernelIdeal.Flow
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)
variable (ρ : Dev nD → PrngReg)

/-! ## The three segments -/

local notation "ℍ" => Pipeline.HostSeg (Name := ℕ) (U := UU) (pcfgs (F := F)) defs₀ 𝒱₀ L lv

/-- Beside the buffers before the region, and after it. -/
def before (c : Dev nD) : sProp 𝕄 := iprop(Tk m c ∗ (∃ r, prngReg c r) ∗ ∃ W, owes (c : Thread nD τ) (O₀ c) W)
def after (c : Dev nD) : sProp 𝕄 := iprop(Yk c ∗ (∃ r, prngReg c r) ∗ ∃ W, owes (c : Thread nD τ) (0 : CellTallies nD τ sig Unit) W)

theorem sub0 : ∀ op ∈ (hostOps0 : List (HloOp τ sig (Elt F))), op.bufs ⊆ bufs :=
  fun op h => Pipeline.sub_ucRefs op ((List.forall_iff_forall_mem.mp hostOps0_sub) op h)
theorem sub1 : ∀ op ∈ (hostOps1 : List (HloOp τ sig (Elt F))), op.bufs ⊆ bufs :=
  fun op h => Pipeline.sub_ucRefs op ((List.forall_iff_forall_mem.mp hostOps1_sub) op h)

/-- The launched memory, and the contents once the last host line has run. -/
def start (c : Dev nD) : Valuation τ sig (Elt F) := fun b => m (c, b)
def W2 (c : Dev nD) : Valuation τ sig (Elt F) := StableHlo.after hostOps1 (W1 m c)

def seg0 : ℍ := Pipeline.HostSeg.ofOps _ _ _ _ _ bufs hostOps0 sub0 (List.forall_iff_forall_mem.mp hostOps0_fresh) (start m) (before m)
def seg1 : ℍ := Pipeline.HostSeg.ofOps _ _ _ _ _ bufs hostOps1 sub1 (List.forall_iff_forall_mem.mp hostOps1_fresh) (W1 m) after

def segs : List (Pipeline.Seg (pcfgs (F := F)) adm (pdats m) () defs₀ 𝒱₀ L lv) :=
  [.host (seg0 m), .region (region m), .host (seg1 m)]

theorem main_is (c : Dev nD) : main (F := F) c = Pipeline.Seg.run (segs m) :=
  main_segs adm (pdats m) () 𝒱₀ L lv (seg0 m) (seg1 m) (region m) rfl rfl c

theorem into_region (c : Dev nD) : (seg0 m).post c ⊢ (region m).pre c := by
  show iprop(StableHlo.held (c : Thread nD τ) bufs (V0 m c) ∗ before m c)
    ⊢ iprop(StableHlo.held (c : Thread nD τ) (arrs (F := F)) (V0 m c) ∗ (∃ r, prngReg c r)
      ∗ (StableHlo.held (c : Thread nD τ) (others (F := F)) (V0 m c) ∗ emp) ∗ Tk m c ∗ ∃ Wd, owes (c : Thread nD τ) (0 + O₀ c) Wd)
  rw [held_arrs, zero_add]
  unfold before
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem out_of_region (c : Dev nD) : (region m).post c ⊢ (seg1 m).pre c := by
  show iprop(StableHlo.held (c : Thread nD τ) (arrs (F := F)) (W1 m c) ∗ (∃ r, prngReg c r)
      ∗ (StableHlo.held (c : Thread nD τ) (others (F := F)) (W1 m c) ∗ emp) ∗ Yk c ∗ ∃ Wd, owes (c : Thread nD τ) (0 : CellTallies nD τ sig Unit) Wd)
    ⊢ iprop(StableHlo.held (c : Thread nD τ) bufs (W1 m c) ∗ after c)
  rw [held_arrs]
  unfold after
  iintro ⟨Ha, Hp, ⟨Hr, -⟩, HY, HO⟩
  isplitl [Ha Hr]
  · isplitl [Ha]; · iexact Ha
    iexact Hr
  isplitl [HY]; · iexact HY
  isplitl [Hp]; · iexact Hp
  iexact HO

/-! ## Tokens -/

theorem apart : Disjoint barCells dmaCells := by
  rw [Finset.disjoint_left]
  intro g h₁ h₂
  unfold barCells at h₁; unfold dmaCells at h₂
  obtain ⟨c, -, rfl⟩ := Finset.mem_map.mp h₁
  obtain ⟨p, -, h⟩ := Finset.mem_map.mp h₂
  exact (by decide : ∀ k, osem k ≠ .reg barS) p.2 (congrArg Prod.snd h)

/-- A device's duties: two on its barrier, one on each DMA cell. -/
abbrev dutyAt : Bool ⊕ (Fin 7 ⊕ Fin 7) → SemLoc sig × Bool := Sum.elim (fun b => (.reg barS, b)) (fun k => (osem k, false))
theorem dutyAt_injective : Function.Injective dutyAt := by decide

def tokEmb : Dev nD × (Bool ⊕ (Fin 7 ⊕ Fin 7)) ↪ GSem nD τ sig × ℕ × Bool :=
  ⟨fun p => (((p.1 : Thread nD τ), (dutyAt p.2).1), 0, (dutyAt p.2).2), fun p q h =>
    Prod.ext (congrArg (fun t : GSem nD τ sig × ℕ × Bool => t.1.1.1) h)
      (dutyAt_injective (Prod.ext (congrArg (fun t : GSem nD τ sig × ℕ × Bool => t.1.2) h)
        (congrArg (fun t : GSem nD τ sig × ℕ × Bool => t.2.2) h)))⟩
def toks : Finset (GSem nD τ sig × ℕ × Bool) := Finset.univ.map tokEmb

abbrev tk (g : GSem nD τ sig) (b : Bool) : sProp 𝕄 := dutyTok ER g 0 b

/-- The tokens, by the kind of their cell. -/
theorem toks_kinds : bigSep toks (fun x => (dutyTok ER x.1 x.2.1 x.2.2 : sProp 𝕄))
    = iprop(((bigSep Finset.univ fun c => tk (barCell c) false) ∗ (bigSep Finset.univ fun c => tk (barCell c) true))
      ∗ (bigSep Finset.univ fun c => bigSep Finset.univ fun i => tk (sendCell c i) false)
      ∗ (bigSep Finset.univ fun c => bigSep Finset.univ fun i => tk (recvCell c i) false)) := by
  unfold toks
  rw [bigSep_map, bigSep_univ_prod]
  have e (c : Dev nD) : (bigSep Finset.univ fun k => (dutyTok ER (tokEmb (c, k)).1 (tokEmb (c, k)).2.1 (tokEmb (c, k)).2.2 : sProp 𝕄))
      = iprop((tk (barCell c) false ∗ tk (barCell c) true)
        ∗ (bigSep Finset.univ fun i => tk (sendCell c i) false) ∗ (bigSep Finset.univ fun i => tk (recvCell c i) false)) := by
    refine (BI.bigSep_univ_sum _).trans ?_
    refine congrArg₂ BI.sep ?_ (BI.bigSep_univ_sum _)
    exact bigSep_univ_eq_bigSepL [false, true] (by decide) (by decide) _
  rw [bigSep_congr fun c _ => e c, bigSep_sep', bigSep_sep', bigSep_sep']

/-- Where flow `i` goes, as a permutation of the devices. -/
def route (i : Fin 7) : Dev nD ≃ Dev nD := ⟨fun c => dst c i, fun c => frm c i, fun c => frm_dst c i, fun c => dst_frm c i⟩

/-- Over devices and flows is over flows and devices. -/
theorem flip_over {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

/-- Every token at the device that performs its duty. -/
theorem toks_routed : bigSep toks (fun x => (dutyTok ER x.1 x.2.1 x.2.2 : sProp 𝕄))
    ⊢ iprop((bigSep Finset.univ fun c => iprop(tk (barCell (lf c)) false ∗ tk (barCell (rt c)) true))
      ∗ (bigSep Finset.univ fun c => bigSep Finset.univ fun i => pays c i)) := by
  rw [toks_kinds, bigSep_univ_equiv turn.symm (fun c => (tk (barCell c) false : sProp 𝕄)), bigSep_univ_equiv turn (fun c => (tk (barCell c) true : sProp 𝕄)),
    flip_over (fun c i => (tk (recvCell c i) false : sProp 𝕄)),
    bigSep_congr fun i _ => bigSep_univ_equiv (route i) (fun c => (tk (recvCell c i) false : sProp 𝕄)),
    flip_over (fun i c => (tk (recvCell (route i c) i) false : sProp 𝕄)), ← bigSep_sep', ← bigSep_sep',
    bigSep_congr fun c _ => (bigSep_sep' Finset.univ (fun i => (tk (sendCell c i) false : sProp 𝕄)) (fun i => tk (recvCell (route i c) i) false)).symm]
  exact BI.Entails.refl _

/-! ## Credit -/

theorem recvCell_eq {c d : Dev nD} {i j : Fin 7} (h : recvCell c i = recvCell d j) : c = d ∧ i = j :=
  ⟨congrArg (fun g : GSem nD τ sig => g.1.1) h, Sum.inr_injective (osem_injective (congrArg Prod.snd h))⟩
theorem recv_ne_bar (c d : Dev nD) (i : Fin 7) : recvCell c i ≠ barCell d := fun h =>
  (by decide : ∀ k, osem k ≠ .reg barS) (.inr i) (congrArg Prod.snd h)

theorem owedF_recv (d c : Dev nD) (i : Fin 7) : owedF d Finset.univ (recvCell c i) () = if d = frm c i then amt i else 0 := by
  unfold owedF
  rw [Finset.sum_apply, Finsupp.finset_sum_apply, Finset.sum_eq_single i]
  · rw [tallyAt_apply]
    refine if_congr ?_ rfl rfl
    constructor
    · rintro ⟨h, -⟩; rw [(recvCell_eq h).1, frm_dst]
    · rintro rfl; exact ⟨by rw [dst_frm], rfl⟩
  · intro j _ hj
    rw [tallyAt_apply, if_neg fun h => hj (recvCell_eq h.1).2.symm]
  · exact fun h => absurd (Finset.mem_univ _) h

theorem owed_recv (d c : Dev nD) (i : Fin 7) : O₀ d (recvCell c i) () = if d = frm c i then amt i else 0 := by
  have h (e : Dev nD) : ¬ (recvCell c i = barCell e ∧ () = ()) := fun h => recv_ne_bar c e i h.1
  unfold O₀
  rw [Pi.add_apply, Finsupp.add_apply, Pi.add_apply, Finsupp.add_apply, owedF_recv, tallyAt_apply, tallyAt_apply,
    if_neg (h (rt d)), if_neg (h (lf d)), Nat.add_zero]

theorem owedF_bar (d c : Dev nD) : owedF d Finset.univ (barCell c) () = 0 := by
  by_contra h
  obtain ⟨i, -, e⟩ := owedF_pos (Nat.pos_of_ne_zero h)
  exact recv_ne_bar _ _ i e.symm

theorem owed_bar (d c : Dev nD) : O₀ d (barCell c) () = (if d = lf c then 1 else 0) + (if d = rt c then 1 else 0) := by
  unfold O₀
  rw [Pi.add_apply, Finsupp.add_apply, Pi.add_apply, Finsupp.add_apply, owedF_bar, tallyAt_apply, tallyAt_apply, Nat.zero_add]
  refine congrArg₂ (· + ·) (if_congr ?_ rfl rfl) (if_congr ?_ rfl rfl)
  · constructor
    · rintro ⟨h, -⟩
      have e : c = rt d := congrArg (fun g : GSem nD τ sig => g.1.1) h
      rw [e, lf_rt]
    · rintro rfl; exact ⟨by rw [rt_lf], rfl⟩
  · constructor
    · rintro ⟨h, -⟩
      have e : c = lf d := congrArg (fun g : GSem nD τ sig => g.1.1) h
      rw [e, rt_lf]
    · rintro rfl; exact ⟨by rw [lf_rt], rfl⟩

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lf c) fun _ => 1, Finset.sum_ite_eq' Finset.univ (rt c) fun _ => 1,
    if_pos (Finset.mem_univ _), if_pos (Finset.mem_univ _)]

theorem credit_recv (c : Dev nD) (i : Fin 7) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (frm c i) fun _ => amt i, if_pos (Finset.mem_univ _)]

def recvEmb : Fin 7 ↪ SemLoc sig := ⟨fun i => .dma (recvS i), fun _ _ h => Sum.inr_injective (osem_injective h)⟩

/-- A device's credit at launch. -/
theorem credits (c : Dev nD) : (Pipeline.launchCred O₀ c : sProp 𝕄)
    ⊢ iprop(cred (tallyAt (barCell c) () 2) ∗ bigSep Finset.univ fun i => cred (tallyAt (recvCell c i) () (amt i))) := by
  unfold Pipeline.launchCred
  rw [bigSep_univ_at _ (SemLoc.reg barS), credit_bar, ← bigSep_congr fun i _ => congrArg cred (credit_recv c i)]
  refine sep_mono_right ?_
  have hs : Finset.univ.map recvEmb ⊆ (Finset.univ : Finset (SemLoc sig)).erase (.reg barS) := by decide
  refine (bigSep_subset hs).trans ?_
  rw [bigSep_map]
  exact BI.Entails.refl _

/-! ## Dealing -/

/-- The launch's element: the pipeline's, and the flows'. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- The flows' element, whole, waits on device 0 until the devices are dealt theirs. -/
def G (c : Dev nD) : sProp 𝕄 := if c = 0 then BI.own (ER (launchOf barCells dmaCells toks)) else iprop(emp)

theorem all_G : bigSep Finset.univ (G (F := F)) = BI.own (ER (launchOf barCells dmaCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What device `c` is dealt of the flows' state, -/
def share (c : Dev nD) : sProp 𝕄 :=
  iprop(atPos ER (barCell c) 0 ∅ 0 ∗ (bigSep Finset.univ fun k => openTok ER ((c : Thread nD τ), osem k))
    ∗ (tk (barCell (lf c)) false ∗ tk (barCell (rt c)) true) ∗ (bigSep Finset.univ fun i => pays c i))
/-- and what it has of its own. -/
def purse (c : Dev nD) : sProp 𝕄 :=
  iprop(StableHlo.held (c : Thread nD τ) bufs (start m c)
    ∗ (cred (tallyAt (barCell c) () 2) ∗ bigSep Finset.univ fun i => cred (tallyAt (recvCell c i) () (amt i)))
    ∗ owes (c : Thread nD τ) (O₀ c) ∅ ∗ ∃ r, prngReg c r)

abbrev T₀ (c : Dev nD) : sProp 𝕄 := iprop(StableHlo.held (c : Thread nD τ) bufs (start m c) ∗ before m c)

theorem dealt (κ : GSem nD τ sig → ℕ) (c : Dev nD) : iprop(tools m κ ∗ (share c ∗ purse m c)) ⊢ T₀ m c := by
  unfold share purse T₀ before Tk asleep pend
  iintro ⟨HT, ⟨Hat, Hop, Htk, Hpay⟩, Hh, ⟨Hb, Hr⟩, HO, Hp⟩
  isplitl [Hh]; · iexact Hh
  isplitr [Hp HO]
  · iexists κ
    isplitl [HT]; · iexact HT
    isplitl [Htk]; · iexact Htk
    isplitl [Hat Hb]
    · isplitl [Hat]; · iexact Hat
      iexact Hb
    isplitl [Hop]; · iexact Hop
    isplitl [Hpay]; · iexact Hpay
    iexact Hr
  isplitl [Hp]; · iexact Hp
  iexists ∅; iexact HO

theorem bar_counter (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem sorted (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(purse m c ∗ (semVal (barCell c) 0 ∗ G c)) : sProp 𝕄) := by
  rw [show (unscopedBufs c (fun b => m ((c : Thread nD τ).loc b)) : sProp 𝕄) = StableHlo.held (c : Thread nD τ) bufs (start m c)
    from Pipeline.unscopedBufs_held c (start m c), bar_counter]
  unfold purse
  iintro ⟨Hh, Hs, HO, Hc, Hp, HG⟩
  isplitl [Hh HO Hc Hp]
  · isplitl [Hh]; · iexact Hh
    isplitl [Hc]; · iapply (credits (F := F) c) $$ Hc
    isplitl [HO]; · iexact HO
    iexists (ρ c); iexact Hp
  isplitl [Hs]; · iexact Hs
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hs : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(purse m c ∗ (semVal (barCell c) 0 ∗ G c)) : sProp 𝕄) :=
    bigSep_mono fun c _ => sorted m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun k => (openTok ER ((c : Thread nD τ), osem k) : sProp 𝕄)) :=
    Entails.of_eq ((bigSep_map (s := Finset.univ) dmaEmb (Φ := fun g : GSem nD τ sig => (openTok ER g : sProp 𝕄))).trans (bigSep_univ_prod _))
  iintro ⟨H, #Hlev⟩
  ihave H1 := hs $$ H
  ihave H2 := bigSep_unpair $$ H1; icases H2 with ⟨Hp, H3⟩
  ihave H4 := bigSep_unpair $$ H3; icases H4 with ⟨Hv, HG⟩
  ihave Hu := (Entails.of_eq (all_G (F := F))) $$ HG
  imod (Rounds.fund_launch ER (sched m) apart (fun g _ h => h) toks) $$ [Hv Hu] with ⟨%κ, -, #Hinv, #Hr, Hat, Hop, Htok⟩
  · isplitl [Hv]
    · iapply hv $$ Hv
    · iexact Hu
  imodintro
  iapply (bigSep_with_persistent (R := tools m κ) (Φ := fun c => iprop(share c ∗ purse m c)) fun c _ => dealt m κ c)
  isplitr
  · unfold tools
    isplitr; · iexact Hinv
    isplitr; · iexact Hr
    iexact Hlev
  iapply bigSep_pair
  isplitr [Hp]
  · ihave Ht := (toks_routed (F := F)) $$ Htok
    icases Ht with ⟨Htb, Htp⟩
    unfold share
    iapply bigSep_pair; isplitl [Hat]; · iapply hat $$ Hat
    iapply bigSep_pair; isplitl [Hop]; · iapply hop $$ Hop
    iapply bigSep_pair; isplitl [Htb]; · iexact Htb
    iexact Htp
  · iexact Hp

/-! ## The run -/

theorem only_bar : ∀ sm : SemLoc sig, sm.isScoped .tc = false → sm = .reg barS := by decide

/-- The buffers a claim reads. -/
abbrev seen : Finset (DevRef τ sig) := {Proc.devRef .tc main_arg0, Proc.devRef .tc main_arg1, Proc.devRef .tc main_v7}
theorem seen_sub : seen ⊆ bufs := by decide

abbrev Tₙ (c : Dev nD) : sProp 𝕄 := iprop(StableHlo.held (c : Thread nD τ) bufs (W2 m c) ∗ Yk c)

theorem held_seen (c : Dev nD) (W : Valuation τ sig (Elt F)) : (StableHlo.held (c : Thread nD τ) bufs W : sProp 𝕄)
    ⊢ iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_v7) ↦{fullShare} W (Proc.devRef .tc main_v7))) := by
  unfold StableHlo.held
  refine (bigSep_subset seen_sub).trans ?_
  rw [bigSep_eq_bigSepL_of_eq [Proc.devRef .tc main_arg0, Proc.devRef .tc main_arg1, Proc.devRef .tc main_v7] (by decide) (by decide)]
  exact BI.Entails.refl _

set_option backward.isDefEq.respectTransparency.types false in
/-- Every run of @main ends, with the buffers a claim reads at their contents after the last host line and every
    semaphore at zero. -/
theorem run_main : θ_run defs (onTc (τ := τ) (main (F := F))) ⟨m, fun _ => 0, ρ⟩
    (fun r => (∀ c : Dev nD, r.2.mem ((c : Thread nD τ).loc main_arg0) = W2 m c (Proc.devRef .tc main_arg0)
        ∧ r.2.mem ((c : Thread nD τ).loc main_arg1) = W2 m c (Proc.devRef .tc main_arg1)
        ∧ r.2.mem ((c : Thread nD τ).loc main_v7) = W2 m c (Proc.devRef .tc main_v7)) ∧ r.2.sem = fun _ => 0) :=
  Pipeline.θ_run_regions_kit_sems (pcfgs (F := F)) adm (pdats m) () cellOf_inj EP defs₀ 𝒱₀ L lv m ρ main (segs m)
    (fun c Q => by rw [main_is m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [all_G]; iexact HX)
    (T₀ := T₀ m) (Tₙ := Tₙ m)
    (hch := by
      refine ⟨fun c => .rfl, fun c => into_region m c, fun c => out_of_region m c, fun c => ?_⟩
      show iprop(StableHlo.held (c : Thread nD τ) bufs (W2 m c) ∗ after c)
        ⊢ iprop(Tₙ m c ∗ ∃ W, owes (c : Thread nD τ) (0 : CellTallies nD τ sig Unit) W)
      unfold after
      iintro ⟨Hh, Hb, -, HO⟩
      isplitr [HO]
      · isplitl [Hh]; · iexact Hh
        iexact Hb
      · iexact HO)
    (hinit := init m ρ)
    (QY := fun c s => (s.mem ((c : Thread nD τ).loc main_arg0) = W2 m c (Proc.devRef .tc main_arg0)
        ∧ s.mem ((c : Thread nD τ).loc main_arg1) = W2 m c (Proc.devRef .tc main_arg1)
        ∧ s.mem ((c : Thread nD τ).loc main_v7) = W2 m c (Proc.devRef .tc main_v7)) ∧ s.sem (barCell c) = 0)
    (hfin := fun c s' => by
      dsimp only [Tₙ]; unfold Yk
      iintro ⟨⟨Hh, Hb⟩, HSI⟩
      ihave Hs := (held_seen c (W2 m c)) $$ Hh
      icases Hs with ⟨H0, H1, H7⟩
      icombine HSI H0 gives %h0
      icombine HSI H1 gives %h1
      icombine HSI H7 gives %h7
      icombine HSI Hb gives %hb
      imodintro
      isplitr
      · ipureintro
        exact ⟨⟨Buf.eq_of_forall_mem_univ h0, Buf.eq_of_forall_mem_univ h1, Buf.eq_of_forall_mem_univ h7⟩, by simpa using hb⟩
      iexact HSI)
    (hQ := fun s h hs => ⟨fun c => (h c).1, sem_eq_zero hs fun c sm hsm => by
        obtain rfl := only_bar sm hsm
        exact (h c).2⟩)

/-! ## The arguments -/

theorem W2_arg0 (c : Dev nD) : W2 m c (Proc.devRef .tc main_arg0) = m ((c : Thread nD τ).loc main_arg0) := by
  unfold W2
  rw [StableHlo.after_cons, StableHlo.after_nil, StableHlo.reshape_result_ne _ _ _ _ _ _ _ (by decide),
    W1_ne m c (Proc.devRef .tc main_arg0) (StableHlo.devRef_ne_of_ne (by decide))]
  exact V_main_arg0 m c

theorem W2_arg1 (c : Dev nD) : W2 m c (Proc.devRef .tc main_arg1) = m ((c : Thread nD τ).loc main_arg1) := by
  unfold W2
  rw [StableHlo.after_cons, StableHlo.after_nil, StableHlo.reshape_result_ne _ _ _ _ _ _ _ (by decide),
    W1_ne m c (Proc.devRef .tc main_arg1) (StableHlo.devRef_ne_of_ne (by decide))]
  exact V_main_arg1 m c

end Cert.KernelIdeal.Flow
end
-- ==== Proof.Blocks.lean ====
module

public import proofs.«01_k».proof.Proof.Launch
public import Idealize.ShloMosaic.Lib.Pointwise
public import Idealize.ShloMosaic.Lib.Layout
public import Idealize.ShloMosaic.Lib.Pipeline.ValueKit.Geometry
@[expose] public section
set_option maxRecDepth 16384

noncomputable section
namespace Cert.KernelIdeal.Flow
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)

/-! ## The frame -/

/-- Every run ends with the arguments as they were and every semaphore at zero. -/
theorem framed (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono
    (fun _ h => ⟨fun c => ⟨(h.1 c).1.trans (W2_arg0 m c), (h.1 c).2.1.trans (W2_arg1 m c)⟩, h.2⟩) (run_main m ρ)

/-! ## The region's result -/

/-- The one block of each window is the whole of its array. -/
theorem place_x (i : S4096x512.Idx) : ((cfg0.win 0).blk t0_0).view.emb i = i := by
  funext a; apply Fin.ext
  show (((cfg0.win 0).rect t0_0).emb i a).val = _
  rw [Rect.emb_apply]
  match a with
  | ⟨0, _⟩ => show 0 + 1 * (i 0).val = (i 0).val; omega
  | ⟨1, _⟩ => show 0 + 1 * (i 1).val = (i 1).val; omega
theorem place_w (i : S512x2048.Idx) : ((cfg0.win 1).blk t0_0).view.emb i = i := by
  funext a; apply Fin.ext
  show (((cfg0.win 1).rect t0_0).emb i a).val = _
  rw [Rect.emb_apply]
  match a with
  | ⟨0, _⟩ => show 0 + 1 * (i 0).val = (i 0).val; omega
  | ⟨1, _⟩ => show 0 + 1 * (i 1).val = (i 1).val; omega
theorem place_o (i : S1024x2048.Idx) : ((cfg0.win 2).blk t0_0).view.emb i = i := by
  funext a; apply Fin.ext
  show (((cfg0.win 2).rect t0_0).emb i a).val = _
  rw [Rect.emb_apply]
  match a with
  | ⟨0, _⟩ => show 0 + 1 * (i 0).val = (i 0).val; omega
  | ⟨1, _⟩ => show 0 + 1 * (i 1).val = (i 1).val; omega

theorem only (t : Fin cfg0.N) : t = t0_0 := by
  revert t; decide +kernel

/-- The region leaves the finished sum in its output array. -/
theorem out_eq (c : Dev nD) : (dat m c).arrAt 2 cfg0.N = acc4 m c := by
  refine (dat m c).arrAt_eq_of_covers 2 (acc4 m c) (by decide +kernel) fun t hf y => ?_
  obtain rfl := only t
  show acc4 m c y = _
  exact congrArg (acc4 m c) (place_o y).symm

theorem W2_v7 (c : Dev nD) : W2 m c (Proc.devRef .tc main_v7) = shapeCast S4x256x2048 (acc4 m c) shapeCasts_S1024x2048_S4x256x2048 := by
  unfold W2
  rw [show shapeCast S4x256x2048 (acc4 m c) shapeCasts_S1024x2048_S4x256x2048 = shapeCast S4x256x2048 (W1 m c (Proc.devRef .tc main_v6)) shapeCasts_S1024x2048_S4x256x2048 by rw [W1_v6, out_eq]]
  after_results
  rfl

theorem xs_eq (c : Dev nD) : xs m c = V m c main_v4 :=
  funext fun i => congrArg (V m c main_v4) (place_x i)
theorem ws_eq (c : Dev nD) : ws m c = V m c main_v5 :=
  funext fun i => congrArg (V m c main_v5) (place_w i)

theorem v4_eq (c : Dev nD) : V m c main_v4 = truncf .bf16 (shapeCast S4096x512 (transpose S4x4x256x512 [1, 0, 2, 3] (shapeCast S4x4x256x512 (m ((c : Thread nD τ).loc main_arg0)) shapeCasts_S4x1024x8x64_S4x4x256x512) transposes_S4x4x256x512_S4x4x256x512_1_0_2_3) shapeCasts_S4x4x256x512_S4096x512) bitsLt_bf16_f32 := by
  show V0 m c _ = _
  unfold V0
  simp only [List.flatten_cons, List.flatten_nil, List.append_nil]
  after_results
  rfl

theorem v5_eq (c : Dev nD) : V m c main_v5 = truncf .bf16 (m ((c : Thread nD τ).loc main_arg1)) bitsLt_bf16_f32 := by
  show V0 m c _ = _
  unfold V0
  simp only [List.flatten_cons, List.flatten_nil, List.append_nil]
  after_results

/-! ## Where the blocks of x lie -/

theorem k0_off1_one (c : Dev nD) : k0_off1 c 1#32 = ![1024 * (rt c).val, 0] := by
  revert c; decide +kernel
theorem k0_off1_two (c : Dev nD) : k0_off1 c 2#32 = ![1024 * (rt (rt c)).val, 0] := by
  revert c; decide +kernel
theorem k0_off2_eq (c : Dev nD) : k0_off2 c = ![1024 * (lf c).val, 0] := by
  revert c; decide +kernel

/-- Block `k` of x, of 1024 rows. -/
def rows (k : Fin 4) (p : Fin 1024) : Fin 4096 := ⟨1024 * k.val + p.val, by omega⟩

/-- A cut of 1024 rows that begins at row `1024 k` is block `k`. -/
theorem emb_rows (off : Fin 2 → Nat) (h) (k : Fin 4) (he : off = ![1024 * k.val, 0]) (p : Fin 1024) (j : Fin 512) :
    (Rect.unit (s := S4096x512) off S1024x512.size h).emb (ix2 p j) = ix2 (rows k p) j := by
  subst he
  funext a; apply Fin.ext
  rw [Rect.emb_apply]
  match a with
  | ⟨0, _⟩ => show 1024 * k.val + 1 * p.val = 1024 * k.val + p.val; omega
  | ⟨1, _⟩ => show 0 + 1 * j.val = j.val; omega

theorem read_own (c : Dev nD) (p : Fin 1024) (j : Fin 512) :
    own m c (ix2 p j) = xs m c (ix2 (rows c p) j) := by
  unfold own
  rw [View.readAt_rect]
  exact congrArg (xs m c) (emb_rows _ (k0_off3_inb c) c (k0_off3_eq c) p j)
theorem read_cut0 (c : Dev nD) (p : Fin 1024) (j : Fin 512) :
    (xCut0 c).view.read (Elt F) (xs m c) (ix2 p j) = xs m c (ix2 (rows (rt c) p) j) :=
  congrArg (xs m c) (emb_rows _ (k0_off1_inb c 0) (rt c) (k0_off1_one c) p j)
theorem read_cut1 (c : Dev nD) (p : Fin 1024) (j : Fin 512) :
    (xCut1 c).view.read (Elt F) (xs m c) (ix2 p j) = xs m c (ix2 (rows (lf c) p) j) :=
  congrArg (xs m c) (emb_rows _ (k0_off2_inb c) (lf c) (k0_off2_eq c) p j)
theorem read_cut4 (c : Dev nD) (p : Fin 1024) (j : Fin 512) :
    (xCut4 c).view.read (Elt F) (xs m c) (ix2 p j) = xs m c (ix2 (rows (rt (rt c)) p) j) :=
  congrArg (xs m c) (emb_rows _ (k0_off1_inb c 1) (rt (rt c)) (k0_off1_two c) p j)

end Cert.KernelIdeal.Flow
end
-- ==== Proof.Value.lean ====
module

public import proofs.«01_k».proof.Proof.Blocks
public import proofs.«01_k».proof.Proof.Gen.ReferenceIdeal.Run
public import Idealize.ShloMosaic.Lib.Pointwise
public import Idealize.ShloMosaic.Lib.Layout
public import Idealize.ShloMosaic.Lib.Pipeline.ValueKit.Geometry
@[expose] public section
set_option maxRecDepth 16384

noncomputable section
namespace Cert.KernelIdeal.Flow
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)

/-! ## Over the reals -/

theorem pay1_pt (x : Vec Ideal S1024x512 .bf16) (w : Vec Ideal S512x2048 .bf16) (p : Fin 1024) (n : Fin 2048) :
    k0_pay1 (F := Ideal) x w (ix2 p n) = ∑ j : Fin 512, x (ix2 p j) * w (ix2 j n) := by
  pointwise [k0_pay1]
theorem pay2_pt (a : Vec Ideal S1024x2048 .f32) (x : Vec Ideal S1024x512 .bf16) (w : Vec Ideal S512x2048 .bf16) (p : Fin 1024) (n : Fin 2048) :
    k0_pay2 (F := Ideal) a x w (ix2 p n) = a (ix2 p n) + ∑ j : Fin 512, x (ix2 p j) * w (ix2 j n) := by
  pointwise [k0_pay2]
theorem pay3_pt (a : Vec Ideal S1024x2048 .f32) (x : Vec Ideal S1024x512 .bf16) (w : Vec Ideal S512x2048 .bf16) (p : Fin 1024) (n : Fin 2048) :
    k0_pay3 (F := Ideal) a x w (ix2 p n) = a (ix2 p n) + ∑ j : Fin 512, x (ix2 p j) * w (ix2 j n) := by
  pointwise [k0_pay3]
theorem pay4_pt (a : Vec Ideal S1024x2048 .f32) (x : Vec Ideal S1024x512 .bf16) (w : Vec Ideal S512x2048 .bf16) (p : Fin 1024) (n : Fin 2048) :
    k0_pay4 (F := Ideal) a x w (ix2 p n) = a (ix2 p n) + ∑ j : Fin 512, x (ix2 p j) * w (ix2 j n) := by
  pointwise [k0_pay4]

section Real
variable (v : (ℓ : Loc nD τ sig) → Buf (Elt Ideal) ℓ)

/-- x and w of device `d` as arrays of reals. -/
def xr (d : Dev nD) : S4096x512.Idx → EReal := xs v d
def wr (d : Dev nD) : S512x2048.Idx → EReal := ws v d

/-- Device `d`'s part of row `p` of device `c`'s result, at column `n`. -/
def part (c d : Dev nD) (p : Fin 1024) (n : Fin 2048) : EReal :=
  ∑ j : Fin 512, xr v d (ix2 (rows c p) j) * wr v d (ix2 j n)

theorem lf_lf (c : Dev nD) : lf (lf c) = rt (rt c) := by revert c; decide
theorem rt_four (c : Dev nD) : rt (rt (rt (rt c))) = c := by revert c; decide

theorem acc1_pt (c : Dev nD) (p : Fin 1024) (n : Fin 2048) :
    (acc1 v c (ix2 p n) : EReal) = part v c c p n :=
  (pay1_pt (own v c) (ws v c) p n).trans (Finset.sum_congr rfl fun j _ => congrArg (· * wr v c (ix2 j n)) (read_own v c p j))

theorem acc2_pt (c : Dev nD) (p : Fin 1024) (n : Fin 2048) :
    (acc2 v c (ix2 p n) : EReal) = part v c c p n + part v c (lf c) p n := by
  have e (j : Fin 512) : landed v c 0 (ix2 p j) = xs v (lf c) (ix2 (rows c p) j) := by
    have := read_cut0 v (lf c) p j; rw [rt_lf] at this; exact this
  exact (pay2_pt (acc1 v c) (landed v c 0) (landed v c 2) p n).trans
    (congrArg₂ (fun a b : EReal => a + b) (acc1_pt v c p n) (Finset.sum_congr rfl fun j _ => congrArg (· * wr v (lf c) (ix2 j n)) (e j)))

theorem acc3_pt (c : Dev nD) (p : Fin 1024) (n : Fin 2048) :
    (acc3 v c (ix2 p n) : EReal) = part v c c p n + part v c (lf c) p n + part v c (rt c) p n := by
  have e (j : Fin 512) : landed v c 1 (ix2 p j) = xs v (rt c) (ix2 (rows c p) j) := by
    have := read_cut1 v (rt c) p j; rw [lf_rt] at this; exact this
  exact (pay3_pt (acc2 v c) (landed v c 1) (landed v c 3) p n).trans
    (congrArg₂ (fun a b : EReal => a + b) (acc2_pt v c p n) (Finset.sum_congr rfl fun j _ => congrArg (· * wr v (rt c) (ix2 j n)) (e j)))

/-- The finished sum is the four devices' parts. -/
theorem acc4_pt (c : Dev nD) (p : Fin 1024) (n : Fin 2048) :
    (acc4 v c (ix2 p n) : EReal) = part v c c p n + part v c (lf c) p n + part v c (rt c) p n + part v c (rt (rt c)) p n := by
  have e (j : Fin 512) : landed v c 6 (ix2 p j) = xs v (rt (rt c)) (ix2 (rows c p) j) := by
    have := read_cut4 v (rt (rt c)) p j
    rw [rt_four] at this; exact this
  have e5 : landed v c 5 = ws v (rt (rt c)) := by rw [← lf_lf c]; rfl
  exact (pay4_pt (acc3 v c) (landed v c 6) (landed v c 5) p n).trans
    (congrArg₂ (fun a b : EReal => a + b) (acc3_pt v c p n) (Finset.sum_congr rfl fun j _ =>
      congrArg₂ (fun a b : EReal => a * b) (e j) (congrFun e5 (ix2 j n))))

/-- What the host lines before the region make of the first argument. -/
def shuffled (y : FVec Ideal S4x1024x8x64 .f32) : FVec Ideal S4096x512 .bf16 :=
  truncf .bf16 (shapeCast S4096x512 (transpose S4x4x256x512 [1, 0, 2, 3] (shapeCast S4x4x256x512 y shapeCasts_S4x1024x8x64_S4x4x256x512) transposes_S4x4x256x512_S4x4x256x512_1_0_2_3) shapeCasts_S4x4x256x512_S4096x512) bitsLt_bf16_f32

/-- Row `p` of block `k` of it is the row of the argument at batch `p / 256` and position `256 k + p % 256`. -/
theorem shuffled_pt (y : FVec Ideal S4x1024x8x64 .f32) (k : Fin 4) (p : Fin 1024) (j : Fin 512) :
    shuffled y (ix2 (rows k p) j)
      = y (ix4 (⟨p.val / 256, by omega⟩ : Fin 4) (⟨256 * k.val + p.val % 256, by omega⟩ : Fin 1024) (⟨j.val / 64, by omega⟩ : Fin 8) (⟨j.val % 64, by omega⟩ : Fin 64)) := by
  generalize hr : rows k p = r
  have hv : r.val = 1024 * k.val + p.val := by rw [← hr]; rfl
  pointwise [shuffled]
  congr 2
  · apply Fin.ext; show r.val / 256 % 4 = p.val / 256; omega
  · apply Fin.ext; show r.val / 1024 * 256 + r.val % 256 = 256 * k.val + p.val % 256; omega

theorem xr_eq (d : Dev nD) : xr v d = shuffled (v ((d : Thread nD τ).loc main_arg0)) := (xs_eq v d).trans (v4_eq v d)
theorem wr_eq (d : Dev nD) : wr v d = v ((d : Thread nD τ).loc main_arg1) := (ws_eq v d).trans (v5_eq v d)

/-! ## The reference -/

/-- The reference's result: the heads laid side by side, times the weights. -/
def whole (O : FVec Ideal Cert.ReferenceIdeal.S4x1024x32x64 .f32) (Wo : FVec Ideal Cert.ReferenceIdeal.S2048x2048 .f32) :
    FVec Ideal Cert.ReferenceIdeal.S4x1024x2048 .f32 :=
  Host.dotGeneral Cert.ReferenceIdeal.dot_S4x1024x2048_S2048x2048_S4x1024x2048_2_0_01_1_n_n none
    (shapeCast Cert.ReferenceIdeal.S4x1024x2048 O Cert.ReferenceIdeal.Facts₀.shapeCasts_S4x1024x32x64_S4x1024x2048) Wo

/-- One product of the reference's sum for batch `b`, position `t`, column `n`. -/
def term (O : FVec Ideal Cert.ReferenceIdeal.S4x1024x32x64 .f32) (Wo : FVec Ideal Cert.ReferenceIdeal.S2048x2048 .f32)
    (b : Fin 4) (t : Fin 1024) (n k : Fin 2048) : EReal :=
  O (ix4 b t (⟨k.val / 64, by omega⟩ : Fin 32) (⟨k.val % 64, by omega⟩ : Fin 64)) * Wo (ix2 k n)

theorem whole_pt (O Wo) (b : Fin 4) (t : Fin 1024) (n : Fin 2048) :
    whole O Wo (ix3 b t n) = ∑ k : Fin 2048, term O Wo b t n k := by
  pointwise [whole, term]

/-- Position `s` of the 256 in part `k`, and lane `j` of the 512 in part `d`. -/
def spot (k : Fin 4) (s : Fin 256) : Fin 1024 := ⟨256 * k.val + s.val, by omega⟩
def lane (d : Fin 4) (j : Fin 512) : Fin 2048 := ⟨512 * d.val + j.val, by omega⟩

/-- A sum over the 2048 is a sum of four sums over 512. -/
theorem sum_cut (f : Fin 2048 → EReal) :
    ∑ k : Fin 2048, f k = ∑ d : Fin 4, ∑ j : Fin 512, f (lane d j) := by
  rw [← Fintype.sum_prod_type', ← Equiv.sum_comp (finProdFinEquiv : Fin 4 × Fin 512 ≃ Fin 2048)]
  refine Finset.sum_congr rfl fun x _ => congrArg f (Fin.ext ?_)
  show x.2.val + 512 * x.1.val = 512 * x.1.val + x.2.val
  omega

/-- A sum over the devices in the order in which device `c` takes them. -/
theorem sum_ring (f : Dev nD → EReal) (c : Dev nD) :
    f c + f (lf c) + f (rt c) + f (rt (rt c)) = ∑ d : Fin 4, f d := by
  rw [Fin.sum_univ_four]
  revert c
  have h : ∀ c : Fin 4, c = 0 ∨ c = 1 ∨ c = 2 ∨ c = 3 := by decide
  intro c
  rcases h c with rfl | rfl | rfl | rfl
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

variable (O : FVec Ideal Cert.ReferenceIdeal.S4x1024x32x64 .f32) (Wo : FVec Ideal Cert.ReferenceIdeal.S2048x2048 .f32)

/-- A device's part is its 512 products of the reference's sum. -/
theorem part_eq (c d : Dev nD)
    (hO : v ((d : Thread nD τ).loc main_arg0) = Layout.block ⟨4, ![4, 1024, 8, 64]⟩ ⟨4, ![4, 1024, 32, 64]⟩ 2 4 d O)
    (hW : v ((d : Thread nD τ).loc main_arg1) = Layout.block ⟨2, ![512, 2048]⟩ ⟨2, ![2048, 2048]⟩ 0 4 d Wo)
    (b : Fin 4) (s : Fin 256) (n : Fin 2048) :
    part v c d (spot b s) n
      = ∑ j : Fin 512, term O Wo b (spot c s) n (lane d j) := by
  unfold part
  refine Finset.sum_congr rfl fun j _ => ?_
  rw [xr_eq, wr_eq, hO, hW, shuffled_pt]
  unfold term
  refine congrArg₂ (fun a b : EReal => a * b) (congrArg O ?_) (congrArg Wo ?_)
  · funext a; apply Fin.ext
    match a with
    | ⟨0, _⟩ => show (256 * b.val + s.val) / 256 = b.val; omega
    | ⟨1, _⟩ => show 256 * c.val + (256 * b.val + s.val) % 256 = 256 * c.val + s.val; omega
    | ⟨2, _⟩ => show d.val * 8 + j.val / 64 = (512 * d.val + j.val) / 64; omega
    | ⟨3, _⟩ => show j.val % 64 = (512 * d.val + j.val) % 64; omega
  · funext a; apply Fin.ext
    match a with
    | ⟨0, _⟩ => show d.val * 512 + j.val = 512 * d.val + j.val; omega
    | ⟨1, _⟩ => rfl

/-- Each device's result is its block of the reference's. -/
theorem meets (hv : ∀ d : Dev nD,
      v ((d : Thread nD τ).loc main_arg0) = Layout.block ⟨4, ![4, 1024, 8, 64]⟩ ⟨4, ![4, 1024, 32, 64]⟩ 2 4 d O
      ∧ v ((d : Thread nD τ).loc main_arg1) = Layout.block ⟨2, ![512, 2048]⟩ ⟨2, ![2048, 2048]⟩ 0 4 d Wo) (c : Dev nD) :
    W2 v c (Proc.devRef .tc main_v7) = Layout.block ⟨3, ![4, 256, 2048]⟩ ⟨3, ![4, 1024, 2048]⟩ 1 4 c (whole O Wo) := by
  rw [W2_v7]
  funext i
  obtain ⟨b, s, n, rfl⟩ : ∃ (b : Fin 4) (s : Fin 256) (n : Fin 2048), i = ix3 b s n := ⟨i 0, i 1, i 2, eq_ix3 i⟩
  have hp (A : FVec Ideal S1024x2048 .f32) : shapeCast S4x256x2048 A shapeCasts_S1024x2048_S4x256x2048 (ix3 b s n)
      = A (ix2 (spot b s) n) := by
    pointwise
    congr 2
    apply Fin.ext; show b.val * 256 + s.val = 256 * b.val + s.val; omega
  have hi : (Layout.block ⟨3, ![4, 256, 2048]⟩ ⟨3, ![4, 1024, 2048]⟩ 1 4 c (whole O Wo)) (ix3 b s n)
      = whole O Wo (ix3 b (spot c s) n) := by
    refine congrArg (whole O Wo) ?_
    funext a; apply Fin.ext
    match a with
    | ⟨0, _⟩ => rfl
    | ⟨1, _⟩ => show c.val * 256 + s.val = 256 * c.val + s.val; omega
    | ⟨2, _⟩ => rfl
  refine (hp (acc4 v c)).trans (Eq.trans ?_ hi.symm)
  rw [whole_pt, sum_cut]
  refine (acc4_pt v c _ n).trans ?_
  refine (sum_ring (fun d => part v c d _ n) c).trans (Finset.sum_congr rfl fun d _ => ?_)
  exact part_eq v O Wo c d (hv d).1 (hv d).2 b s n

end Real
end Cert.KernelIdeal.Flow
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.KernelIdeal.Flow (framed run_main W2_arg0 W2_arg1 whole meets)

/-- The two programs have one text, so one table of bodies: the kernel's body at each label, -/
theorem bodies : Cert.Kernel.defs₀ (F := Bits) = Cert.KernelIdeal.defs₀ (F := Bits) := by
  unfold Cert.Kernel.defs₀ Cert.KernelIdeal.defs₀
  refine congrArg (Defs.onTc (nD := 4) (τ := Cert.Kernel.τ) (sig := Cert.Kernel.sig) (Val := Elt Bits) (Λ := Cert.Kernel.Λ₀)) ?_
  funext l a
  match l, a with
  | ⟨0, _⟩, (t, s) => rfl
  | ⟨n + 1, h⟩, _ => exact absurd h (Nat.not_lt.2 (Nat.le_add_left _ _))

/-- and the region's. -/
theorem tables : Cert.Kernel.defs (F := Bits) = Cert.KernelIdeal.defs (F := Bits) :=
  congrArg (Pipeline.defs (Cert.Kernel.pcfgs (F := Bits))) bodies

/-- The run over any reading of the floats leaves the arguments and the counters: here at the words, -/
theorem frame_kernel : Cert.quiescent_Kernel := fun m ρ _ => by
  rw [tables]
  exact framed (F := Bits) m ρ

/-- and here at the reals. -/
theorem frame_ideal : Cert.quiescent_KernelIdeal := fun m ρ _ => framed (F := Ideal) m ρ

/-- The reference's run leaves its arguments, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Each device's result is its block of the reference's result. -/
theorem value : Cert.algebraic_KernelIdeal_ReferenceIdeal := fun m ρ m' ρ' _ hm =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).2.2.trans (meets m _ _ hm c), (h.1 c).1.trans (W2_arg0 m c), (h.1 c).2.1.trans (W2_arg1 m c)⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
